-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_sqrt_d" .f32 0x3CB504F3#32 (((Real.sqrt 2048)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x512x2048 : Shape := ⟨3, ![64, 512, 2048]⟩
abbrev S2048 : Shape := ⟨1, ![2048]⟩
abbrev S64x2048 : Shape := ⟨2, ![64, 2048]⟩
abbrev S2048x2048 : Shape := ⟨2, ![2048, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S64x512x2048 .f32) (main_arg1 : FVec F S2048 .f32) (main_arg2 : FVec F S64x2048 .f32) (main_arg3 : FVec F S2048x2048 .f32) (main_arg4 : FVec F S2048x2048 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S64x2048 .f32 := Host.absf main_arg2
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S64x512x2048 : Shape := ⟨3, ![64, 512, 2048]⟩
abbrev S2048 : Shape := ⟨1, ![2048]⟩
abbrev S64x2048 : Shape := ⟨2, ![64, 2048]⟩
abbrev S2048x2048 : Shape := ⟨2, ![2048, 2048]⟩
abbrev S1x2048 : Shape := ⟨2, ![1, 2048]⟩
abbrev S1x64 : Shape := ⟨2, ![1, 64]⟩
abbrev S64 : Shape := ⟨1, ![64]⟩
abbrev S1024x2048 : Shape := ⟨2, ![1024, 2048]⟩
abbrev S1024 : Shape := ⟨1, ![1024]⟩
abbrev S1024x1 : Shape := ⟨2, ![1024, 1]⟩
abbrev S1x1x64 : Shape := ⟨3, ![1, 1, 64]⟩
abbrev S1 : Shape := ⟨1, ![1]⟩
abbrev S1x1x1 : Shape := ⟨3, ![1, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x512x2048, .f32⟩
  | .hbm, ⟨1, _⟩ => ⟨S2048, .f32⟩
  | .hbm, ⟨2, _⟩ => ⟨S64x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x64, .f32⟩
  | .hbm, ⟨7, _⟩ => ⟨S64, .f32⟩
  | .local _ .vmem, ⟨0, _⟩ => ⟨S1x2048, .f32⟩
  | .local _ .vmem, ⟨1, _⟩ => ⟨S64x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1x64, .f32⟩
  | .local _ .vmem, ⟨7, _⟩ => ⟨S1x2048, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v20 : BitVec 1 := Scalar.cmpi .eq arg0 c1_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "inv_sqrt_d" => some (((Real.sqrt 2048)⁻¹ : ℝ) : EReal)
  | _ => none
-- ==== ReferenceIdeal.lean ====
abbrev S64x512x2048 : Shape := ⟨3, ![64, 512, 2048]⟩
abbrev S2048 : Shape := ⟨1, ![2048]⟩
abbrev S64x2048 : Shape := ⟨2, ![64, 2048]⟩
abbrev S2048x2048 : Shape := ⟨2, ![2048, 2048]⟩
abbrev S_ : Shape := ⟨0, ![]⟩
abbrev S64 : Shape := ⟨1, ![64]⟩
abbrev S8 : Shape := ⟨1, ![8]⟩
abbrev S8x1 : Shape := ⟨2, ![8, 1]⟩
abbrev S1 : Shape := ⟨1, ![1]⟩

abbrev nBuf : Space → Nat
  | .hbm => 44
  | .vmem => 0
  | .smem => 0
  | _ => 0

abbrev bufTy : (tb : Table) → Fin (tcTables nBuf tb) → BufTy
  | .hbm, ⟨0, _⟩ => ⟨S64x512x2048, .f32⟩
  | .hbm, ⟨1, _⟩ => ⟨S2048, .f32⟩
  | .hbm, ⟨2, _⟩ => ⟨S64x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S64x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S8, .f32⟩
  | .hbm, ⟨16, _⟩ => ⟨S8, .i32⟩
  | .hbm, ⟨17, _⟩ => ⟨S_, .f32⟩
  | .hbm, ⟨18, _⟩ => ⟨S64, .f32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S64, .f32⟩
  | .hbm, ⟨43, _⟩ => ⟨S64, .f32⟩
  | _, _ => ⟨S64x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_values : Ref sig .tc := ⟨.hbm, 15, rfl⟩
abbrev main_indices : Ref sig .tc := ⟨.hbm, 16, rfl⟩
abbrev main_cst_1 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Payload.lean ====
/-
  What the two grid points of the kernel leave in its buffers, as terms of the printed payloads.

  The first point stores a zero row into the scratch, reads it back and adds its own block's contribution; the second
  point adds its block's contribution to what the first left and then writes the gate, computed from the finished row.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]

/-- The pair of zero offsets is the zero function. -/
theorem off_zero : (![0, 0] : Fin 2 → Nat) = fun _ => 0 := funext fun a => match a with | ⟨0, _⟩ => rfl | ⟨1, _⟩ => rfl

/-- The lane numbers of a 1 × 64 row. -/
abbrev lanes : IVec S1x64 32 := iota .tc S1x64 32 [1] iota_S1x64_d1_w32

/-- The mask of the eight chosen lanes, as the payloads compute it from the finished row `t` and the keys. -/
def chosen (t : Vec F S1x2048 .f32) (keys : Vec F S64x2048 .f32) : IVec S1x64 1 :=
  k0_pay11 (k0_pay4 t keys) lanes
    (k0_pay8 (k0_pay4 t keys) lanes (k0_pay5 t keys) (k0_pay6 t keys) (k0_pay7 t keys))
    (k0_pay9 (k0_pay4 t keys) lanes (k0_pay5 t keys) (k0_pay6 t keys) (k0_pay7 t keys))
    (k0_pay10 (k0_pay4 t keys) lanes (k0_pay5 t keys) (k0_pay6 t keys) (k0_pay7 t keys))

/-- The gate the last point writes, from the finished row `t` and the keys. -/
def gate (t : Vec F S1x2048 .f32) (keys : Vec F S64x2048 .f32) : FVec F S1x64 .f32 :=
  k0_pay3 (k0_pay4 t keys) (chosen t keys) (Scalar.ofBits .f32 0xFF800000#32)

/-- The first point leaves in the scratch its block's contribution added to the zero row. -/
theorem scratch_first (c : Dev nD) (i : grid0.Coords) (a1 : Memref sig .tc .vmem S1x2048 .f32) (h1 : a1.IsWhole) (a2 : Memref sig .tc .vmem S64x2048 .f32) (h2 : a2.IsWhole)
    (a3 : Memref sig .tc .vmem S1024x2048 .f32) (h3 : a3.IsWhole) (a4 : Memref sig .tc .vmem S1024x2048 .f32) (h4 : a4.IsWhole) (a5 : Memref sig .tc .vmem S1x64 .f32) (h5 : a5.IsWhole)
    (a6 : Memref sig .tc .vmem S1x2048 .f32) (h6 : a6.IsWhole) (hc0 : cond0_0 i) (hc1 : ¬cond0_1 i)
    (x0 : Vec F S1x2048 .f32) (x1 : Vec F S64x2048 .f32) (x2 x3 : Vec F S1024x2048 .f32) :
    sout0_A_0 c i a1 h1 a2 h2 a3 h3 a4 h4 a5 h5 a6 h6 hc0 hc1 x0 x1 x2 x3 = k0_pay2 x2 x0 k0_pay1 x3 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x2048) off_zero, View.readCov_unit_zero (S := S1x2048) _ off_zero]
  simp only [View.readAt_eq_ld, h1.read_unread, h2.read_unread, h3.read_unread, h4.read_unread, h6.read_unread,
    View.ld_unit_zero (S := S1x2048) off_zero, View.ld_unit_zero (S := S1024x2048) off_zero]

/-- The last point leaves in the output block the gate of the row the first point left plus its own block's contribution. -/
theorem output_last (c : Dev nD) (i : grid0.Coords) (a1 : Memref sig .tc .vmem S1x2048 .f32) (h1 : a1.IsWhole) (a2 : Memref sig .tc .vmem S64x2048 .f32) (h2 : a2.IsWhole)
    (a3 : Memref sig .tc .vmem S1024x2048 .f32) (h3 : a3.IsWhole) (a4 : Memref sig .tc .vmem S1024x2048 .f32) (h4 : a4.IsWhole) (a5 : Memref sig .tc .vmem S1x64 .f32) (h5 : a5.IsWhole)
    (a6 : Memref sig .tc .vmem S1x2048 .f32) (h6 : a6.IsWhole) (hc0 : ¬cond0_0 i) (hc1 : cond0_1 i)
    (x0 : Vec F S1x2048 .f32) (x1 : Vec F S64x2048 .f32) (x2 x3 : Vec F S1024x2048 .f32) (xs : Vec F S1x2048 .f32) :
    out0_B_4 c i a1 h1 a2 h2 a3 h3 a4 h4 a5 h5 a6 h6 hc0 hc1 x0 x1 x2 x3 xs = gate (k0_pay2 x2 x0 xs x3) x1 := by
  unfold out0_B_4
  rw [View.read_writes_eq_canon _ _ _ (cover0_B_4 c i a1 h1 a2 h2 a3 h3 a4 h4 a5 h5 a6 h6 hc0 hc1 x0 x1 x2 x3 xs)]
  unfold kernelRun0_B
  dsimp only
  sl_unfold_words
  rw [View.canon_unit_zero (S := S1x64) off_zero]
  simp only [View.readAt_eq_ld, h1.read_unread, h2.read_unread, h3.read_unread, h4.read_unread, h6.read_unread,
    View.ld_unit_zero (S := S1x2048) off_zero, View.ld_unit_zero (S := S1024x2048) off_zero, View.ld_unit_zero (S := S64x2048) off_zero,
    View.readCov_unit_zero (S := S1x2048) _ off_zero]
  rfl

end Cert.KernelIdeal.Value

end
-- ==== Proof.KernelRun.lean ====
/-
  The kernel's run read as values: after every run the result is one term of the launch contents, and the arguments
  are as launched.

  The two grid points take rows 0–1023 and 1024–2047 of the two projection matrices. The row the first point leaves in
  the scratch is extended by the second, whose gate is the result array; the last host line reshapes that array.
-/
module

public import proofs.«01_k».proof.Proof.Payload
public import Idealize.ShloMosaic.Lib.StableHlo.Run
public import Idealize.ShloMosaic.Lib.ValueIdxCore

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F] [Named F]
variable (m : (ℓ : Loc nD τ sig) → Buf (Elt F) ℓ) (ρ : Dev nD → PrngReg)

/-- Rows `1024 n` to `1024 n + 1023` of a 2048 × 2048 matrix. -/
def rows (n : Fin 2) (w : FVec F S2048x2048 .f32) : FVec F S1024x2048 .f32 := fun j =>
  w (ix2 (⟨1024 * n.val + (j 0).val, by have := n.isLt; have h : (j 0).val < 1024 := (j 0).isLt; omega⟩ : Fin 2048) (j 1))

/-- The context vector as a 1 × 2048 row. -/
def contextRow (x : FVec F S2048 .f32) : FVec F S1x2048 .f32 := shapeCast S1x2048 x shapeCasts_S2048_S1x2048

/-- The row the first point leaves in the scratch. -/
def firstRow (x : FVec F S2048 .f32) (wq wk : FVec F S2048x2048 .f32) : FVec F S1x2048 .f32 :=
  k0_pay2 (rows 0 wq) (contextRow x) k0_pay1 (rows 0 wk)

/-- The finished row. -/
def fullRow (x : FVec F S2048 .f32) (wq wk : FVec F S2048x2048 .f32) : FVec F S1x2048 .f32 :=
  k0_pay2 (rows 1 wq) (contextRow x) (firstRow x wq wk) (rows 1 wk)

/-- The contents of the pipeline's result array after the run. -/
def resultRow (x : FVec F S2048 .f32) (keys : FVec F S64x2048 .f32) (wq wk : FVec F S2048x2048 .f32) : FVec F S1x64 .f32 :=
  gate (fullRow x wq wk) keys

/-- The kernel's result: that array as a vector of 64. -/
def result (x : FVec F S2048 .f32) (keys : FVec F S64x2048 .f32) (wq wk : FVec F S2048x2048 .f32) : FVec F S64 .f32 :=
  shapeCast S64 (resultRow x keys wq wk) shapeCasts_S1x64_S64

/-! ## The blocks the points read -/

/-- The first host line leaves the context, as a row, in the array window 0 stages. -/
theorem entry_context (c : Dev nD) : (V m c main_call0_v0 : FVec F S1x2048 .f32) = contextRow (m ((c : Thread nD τ).loc main_arg1)) := by
  show StableHlo.after (List.flatten [hostOps0]) (fun b => m (c, b)) (Proc.devRef .tc main_call0_v0) = _
  unfold hostOps0
  simp only [List.flatten_cons, List.flatten_nil, List.append_nil]
  after_results
  rfl

/-- Window 0's block is the context row at every point. -/
theorem block_context (c : Dev nD) (t : Fin cfg0.N) : (iblk m c 0 t : FVec F S1x2048 .f32) = contextRow (m ((c : Thread nD τ).loc main_arg1)) := by
  have hi : win0_0.index t 0 = 0 ∧ win0_0.index t 1 = 0 := by rcases fin_N0 t with rfl | rfl <;> decide
  rw [← entry_context m c]
  funext j
  unfold iblk
  rw [View.read_apply]
  show V m c main_call0_v0 _ = V m c main_call0_v0 _
  congr 1
  funext a
  apply Fin.ext
  match a with
  | ⟨0, _⟩ => show win0_0.index t 0 * 1 + 1 * (j 0).val = (j 0).val; rw [hi.1]; omega
  | ⟨1, _⟩ => show win0_0.index t 1 * 2048 + 1 * (j 1).val = (j 1).val; rw [hi.2]; omega

/-- Window 1's block is the whole array of keys at every point. -/
theorem block_keys (c : Dev nD) (t : Fin cfg0.N) : (iblk m c 1 t : FVec F S64x2048 .f32) = m ((c : Thread nD τ).loc main_arg2) := by
  have hi : win0_1.index t 0 = 0 ∧ win0_1.index t 1 = 0 := by rcases fin_N0 t with rfl | rfl <;> decide
  rw [← V_main_arg2 m c]
  funext j
  unfold iblk
  rw [View.read_apply]
  show V m c main_arg2 _ = V m c main_arg2 _
  congr 1
  funext a
  apply Fin.ext
  match a with
  | ⟨0, _⟩ => show win0_1.index t 0 * 64 + 1 * (j 0).val = (j 0).val; rw [hi.1]; omega
  | ⟨1, _⟩ => show win0_1.index t 1 * 2048 + 1 * (j 1).val = (j 1).val; rw [hi.2]; omega

/-- Window 2's block at point `n` is the `n`-th half of the query matrix. -/
theorem block_wq (c : Dev nD) (t : Fin cfg0.N) (n : Fin 2) (hn : t.val = n.val) :
    (iblk m c 2 t : FVec F S1024x2048 .f32) = rows n (m ((c : Thread nD τ).loc main_arg3)) := by
  have hi : win0_2.index t 0 = t.val ∧ win0_2.index t 1 = 0 := by rcases fin_N0 t with rfl | rfl <;> decide
  rw [← V_main_arg3 m c]
  funext j
  unfold iblk rows
  rw [View.read_apply]
  show V m c main_arg3 _ = V m c main_arg3 _
  congr 1
  funext a
  apply Fin.ext
  match a with
  | ⟨0, _⟩ => show win0_2.index t 0 * 1024 + 1 * (j 0).val = 1024 * n.val + (j 0).val; rw [hi.1, hn]; omega
  | ⟨1, _⟩ => show win0_2.index t 1 * 2048 + 1 * (j 1).val = (j 1).val; rw [hi.2]; omega

/-- Window 3's block at point `n` is the `n`-th half of the key matrix. -/
theorem block_wk (c : Dev nD) (t : Fin cfg0.N) (n : Fin 2) (hn : t.val = n.val) :
    (iblk m c 3 t : FVec F S1024x2048 .f32) = rows n (m ((c : Thread nD τ).loc main_arg4)) := by
  have hi : win0_3.index t 0 = t.val ∧ win0_3.index t 1 = 0 := by rcases fin_N0 t with rfl | rfl <;> decide
  rw [← V_main_arg4 m c]
  funext j
  unfold iblk rows
  rw [View.read_apply]
  show V m c main_arg4 _ = V m c main_arg4 _
  congr 1
  funext a
  apply Fin.ext
  match a with
  | ⟨0, _⟩ => show win0_3.index t 0 * 1024 + 1 * (j 0).val = 1024 * n.val + (j 0).val; rw [hi.1, hn]; omega
  | ⟨1, _⟩ => show win0_3.index t 1 * 2048 + 1 * (j 1).val = (j 1).val; rw [hi.2]; omega

/-! ## What the points leave -/

/-- After the first point the scratch holds the first half's row. -/
theorem scratch_after_first (c : Dev nD) (h : 0 < cfg0.N) :
    (outsAt0 m c 0 h).2
      = firstRow (m ((c : Thread nD τ).loc main_arg1)) (m ((c : Thread nD τ).loc main_arg3)) (m ((c : Thread nD τ).loc main_arg4)) := by
  have e := outsAt0_A m c ⟨0, h⟩ rfl (by dsimp only; omega)
  refine (congrArg Prod.snd e).trans ?_
  dsimp only
  rw [scratch_first, block_wq m c ⟨0, h⟩ 0 rfl, block_context, block_wk m c ⟨0, h⟩ 0 rfl]
  rfl

/-- After the last point the output block holds the gate. -/
theorem output_after_last (c : Dev nD) (t : Fin cfg0.N) (ht : t.val = 1) :
    (outsAt0 m c t.val t.isLt).1
      = resultRow (m ((c : Thread nD τ).loc main_arg1)) (m ((c : Thread nD τ).loc main_arg2)) (m ((c : Thread nD τ).loc main_arg3))
          (m ((c : Thread nD τ).loc main_arg4)) := by
  obtain ⟨n, hn⟩ := t
  dsimp only at ht
  subst ht
  have e := outsAt0_B m c ⟨1, hn⟩ (by dsimp only; omega) rfl
  refine (congrArg Prod.fst e).trans ?_
  dsimp only
  rw [output_last, block_wq m c ⟨1, hn⟩ 1 rfl, block_context, block_wk m c ⟨1, hn⟩ 1 rfl, block_keys]
  have hs := scratch_after_first m c (Nat.lt_of_le_of_lt (Nat.sub_le 1 1) hn)
  unfold resultRow fullRow
  rw [← hs]

/-! ## The result array and the host line after it -/

/-- The contents of the result array, at the launch contents of the arguments. -/
abbrev resultAt (c : Dev nD) : Buf (Elt F) ((c : Thread nD τ).loc main_call0_v1) :=
  resultRow (m ((c : Thread nD τ).loc main_arg1)) (m ((c : Thread nD τ).loc main_arg2)) (m ((c : Thread nD τ).loc main_arg3))
    (m ((c : Thread nD τ).loc main_arg4))

/-- The one write-back, at the last point, writes the gate over the whole array. -/
theorem flushed_gate (c : Dev nD) (t : Fin cfg0.N) (hf : (cfg0.win 4).flush t = true) :
    (dats m 0 c).flushed 4 t = ((cfg0.win 4).blk t).view.read (Elt F) (resultAt m c) := by
  have hN : cfg0.N = 2 := N_0
  have h1 : t.val = 1 := by have := (flush0_4 t).mp hf; have := t.isLt; omega
  show (cfg0.win 4).cut (grid0.coords t) ((dats m 0 c).after 4 t) = _
  rw [after0_4, output_after_last m c t h1]
  have hz' : (fun a => win0_4.index t a * main_call0_v1.ty.shape.size a) = fun _ => 0 := by
    rcases fin_N0 t with rfl | rfl <;> exact funext fun a => by fin_cases a <;> decide
  exact (Memref.read_access_unit_zero (Elt F) main_call0_v1 hz' (fun a => by rw [congrFun hz' a]; simp) (resultAt m c)).symm

/-- So the result array ends holding the gate. -/
theorem final_array (c : Dev nD) : (dats m 0 c).arrAt 4 cfg0.N = resultAt m c :=
  (dats m 0 c).arrAt_eq_of_cover 4 (resultAt m c) (flushed_gate m c) fun i =>
    ⟨t0_1, (flush0_4 t0_1).mpr rfl, by
      show i ∈ ((View.whole main_call0_v1).slice (win0_4.rect t0_1)).set
      rw [View.set_slice_whole, Rect.mem_set_unit]
      intro a
      have h0 : (i 0 : Nat) < 1 := (i 0).isLt
      have h1 : (i 1 : Nat) < 64 := (i 1).isLt
      match a with
      | ⟨0, _⟩ => show win0_4.index t0_1 0 * win0_4.size 0 ≤ (i 0 : Nat) ∧ (i 0 : Nat) < win0_4.index t0_1 0 * win0_4.size 0 + win0_4.xsize (grid0.coords t0_1) 0
                  rw [show win0_4.index t0_1 0 * win0_4.size 0 = 0 from by decide +kernel, show win0_4.xsize (grid0.coords t0_1) 0 = 1 from by decide +kernel]; omega
      | ⟨1, _⟩ => show win0_4.index t0_1 1 * win0_4.size 1 ≤ (i 1 : Nat) ∧ (i 1 : Nat) < win0_4.index t0_1 1 * win0_4.size 1 + win0_4.xsize (grid0.coords t0_1) 1
                  rw [show win0_4.index t0_1 1 * win0_4.size 1 = 0 from by decide +kernel, show win0_4.xsize (grid0.coords t0_1) 1 = 64 from by decide +kernel]; omega⟩

/-- The host line after the pipeline leaves the reshaped gate in the result buffer. -/
theorem after_tail (c : Dev nD) :
    Pipeline.afterTail₀ cfgs (dats m) 0 (V0 m) [hostOps1] c main_v0
      = result (m ((c : Thread nD τ).loc main_arg1)) (m ((c : Thread nD τ).loc main_arg2)) (m ((c : Thread nD τ).loc main_arg3))
          (m ((c : Thread nD τ).loc main_arg4)) := by
  unfold Pipeline.afterTail₀ hostOps1
  simp only [List.flatten_cons, List.flatten_nil, List.append_nil]
  after_results
  have h := (Pipeline.withArrays_arr cfg0.spec launch0.win.arr_inj c (V0 m c) (fun w => (dats m 0 c).arrAt w cfg0.N) 4).trans (final_array m c)
  exact congrArg (fun x : FVec F S1x64 .f32 => shapeCast S64 x shapeCasts_S1x64_S64) h

/-- Every run ends with the result buffer at `result` of the launch contents and the arguments unchanged. -/
theorem run : θ_run defs (onTc (τ := τ) (main (F := F))) ⟨m, fun _ => 0, ρ⟩ fun r => ∀ c : Dev nD,
      r.2.mem ((c.tc : Thread nD τ).loc main_v0)
        = result (m ((c : Thread nD τ).loc main_arg1)) (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (after_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩) (run_main m ρ)

end Cert.KernelIdeal.Value

end
-- ==== Proof.Consts.lean ====
/-
  What the printed constants denote at the extended reals.
-/
module

public import proofs.«01_k».proof.Proof.KernelRun
public import Idealize.ShloMosaic.PureOps.Ideal.Laws

@[expose] public section

noncomputable section

namespace Cert.Consts

open Idealize.ShloMosaic

/-- The pattern of minus infinity denotes the least extended real. -/
theorem ofBits_neg_inf : (FloatOps.ofBits .f32 0xFF800000#32 : Ideal .f32) = (⊥ : EReal) := by
  simp [Ideal.ofBits, Ideal.ieee]

/-- The pattern of infinity denotes the greatest extended real. -/
theorem ofBits_pos_inf : (FloatOps.ofBits .f32 0x7F800000#32 : Ideal .f32) = (⊤ : EReal) := by
  simp [Ideal.ofBits, Ideal.ieee]

/-- The pattern of one denotes one. -/
theorem ofBits_one : (FloatOps.ofBits .f32 0x3F800000#32 : Ideal .f32) = ((1 : ℝ) : EReal) := by
  simp [Ideal.ofBits, Ideal.ieee, -EReal.coe_mul]; norm_num

/-- The pattern of 2048 denotes 2048. -/
theorem ofBits_2048 : (FloatOps.ofBits .f32 0x45000000#32 : Ideal .f32) = ((2048 : ℝ) : EReal) := by
  simp [Ideal.ofBits, Ideal.ieee, -EReal.coe_mul]; norm_num

/-- Dividing by one changes nothing. -/
theorem div_one (x : EReal) : Ideal.div x ((1 : ℝ) : EReal) = x := by
  rw [Ideal.div, if_neg (by norm_num), ← EReal.coe_inv, inv_one, EReal.coe_one, mul_one]

end Cert.Consts

end
-- ==== Proof.Ranking.lean ====
/-
  Ranks in a finite family of scores, ties broken by the smaller place: the mathematics of a top-k selection, with no
  kernel in it.

  `beats s j i` says that entry `j` comes before entry `i` in the order "larger score first, among equal scores smaller
  place first"; `rank s i` counts the entries that beat `i`. A stable sort by "larger score first" puts at place `k` the
  entry of rank `k`, and the entry of rank `k` is the first of the largest among those of rank at least `k`.
-/
module

public import Idealize.ShloMosaic.Lib.SortFacts
public import Mathlib.Data.Fintype.EquivFin
public import Mathlib.Data.Fintype.Card
public import Mathlib.Order.Interval.Finset.Fin
public import Mathlib.Tactic.Linarith

@[expose] public section

noncomputable section

namespace Cert.Ranking

open Idealize.ShloMosaic

variable {α : Type} [LinearOrder α] {n : Nat}

/-- Entry `j` comes before entry `i`: a larger score, or an equal score at a smaller place. -/
def beats (s : Fin n → α) (j i : Fin n) : Prop := s i < s j ∨ (s j = s i ∧ j < i)

instance (s : Fin n → α) (j i : Fin n) : Decidable (beats s j i) := by unfold beats; infer_instance

/-- How many entries come before `i`. -/
def rank (s : Fin n → α) (i : Fin n) : Nat := (Finset.univ.filter fun j => beats s j i).card

/-- Nothing comes before itself. -/
theorem beats_irrefl (s : Fin n → α) (i : Fin n) : ¬beats s i i := by
  rintro (h | ⟨_, h⟩)
  · exact lt_irrefl _ h
  · exact lt_irrefl _ h

/-- The order is transitive. -/
theorem beats_trans {s : Fin n → α} {i j k : Fin n} (h : beats s i j) (h' : beats s j k) : beats s i k := by
  rcases h with h | ⟨h, hp⟩ <;> rcases h' with h' | ⟨h', hp'⟩
  · exact Or.inl (lt_trans h' h)
  · exact Or.inl (h' ▸ h)
  · exact Or.inl (h ▸ h')
  · exact Or.inr ⟨h.trans h', lt_trans hp hp'⟩

/-- Of two distinct entries one comes first. -/
theorem beats_total (s : Fin n → α) {i j : Fin n} (h : i ≠ j) : beats s i j ∨ beats s j i := by
  rcases lt_trichotomy (s i) (s j) with hs | hs | hs
  · exact Or.inr (Or.inl hs)
  · rcases lt_or_gt_of_ne h with hp | hp
    · exact Or.inl (Or.inr ⟨hs, hp⟩)
    · exact Or.inr (Or.inr ⟨hs.symm, hp⟩)
  · exact Or.inl (Or.inl hs)

/-- An entry that comes first has the smaller rank. -/
theorem rank_lt_of_beats {s : Fin n → α} {i j : Fin n} (h : beats s i j) : rank s i < rank s j := by
  refine Finset.card_lt_card ((Finset.ssubset_iff_of_subset fun k hk => ?_).mpr ⟨i, ?_, ?_⟩)
  · rw [Finset.mem_filter] at hk ⊢
    exact ⟨hk.1, beats_trans hk.2 h⟩
  · exact Finset.mem_filter.mpr ⟨Finset.mem_univ _, h⟩
  · exact fun hk => beats_irrefl s i (Finset.mem_filter.mp hk).2

/-- Distinct entries have distinct ranks. -/
theorem rank_injective (s : Fin n → α) : Function.Injective (rank s) := by
  intro i j h
  by_contra hne
  rcases beats_total s hne with hb | hb
  · exact absurd h (Nat.ne_of_lt (rank_lt_of_beats hb))
  · exact absurd h.symm (Nat.ne_of_lt (rank_lt_of_beats hb))

/-- A family listed so that no later entry comes before an earlier one lists the entries by rank. -/
theorem rank_of_sorted (s : Fin n → α) (σ : Fin n → Fin n) (hσ : Function.Injective σ)
    (h : ∀ i j, i < j → ¬beats s (σ j) (σ i)) (k : Fin n) : rank s (σ k) = k.val := by
  have hsurj : Function.Surjective σ := Finite.injective_iff_surjective.mp hσ
  have hlt : ∀ i j, beats s (σ i) (σ j) ↔ i < j := by
    intro i j
    constructor
    · intro hb
      rcases lt_trichotomy i j with hij | hij | hij
      · exact hij
      · subst hij; exact absurd hb (beats_irrefl s _)
      · exact absurd hb (h j i hij)
    · intro hij
      rcases beats_total s (fun e => (ne_of_lt hij) (hσ e)) with hb | hb
      · exact hb
      · exact absurd hb (h i j hij)
  have himg : (Finset.univ.filter fun j => beats s j (σ k)) = (Finset.Iio k).image σ := by
    ext j
    obtain ⟨l, rfl⟩ := hsurj j
    simp only [Finset.mem_filter, Finset.mem_univ, true_and, Finset.mem_image, Finset.mem_Iio, hlt]
    constructor
    · intro hl; exact ⟨l, hl, rfl⟩
    · rintro ⟨l', hl', e⟩; rw [← hσ e]; exact hl'
  unfold rank
  rw [himg, Finset.card_image_of_injective _ hσ, Fin.card_Iio]

/-! ## The stable sort -/

/-- Two relations that agree on "later place before earlier place" sort an increasing list of places alike. -/
theorem stableSort_agree (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ?_)
    exact (perm_stableSort R' l).mem_iff.mp hb

/-- Sorting by "larger score first" keeps equal scores in their order: it is sorting by `beats`. -/
theorem sortedFrom_eq_beats (s : Fin n → α) (R : Fin n → Fin n → Bool) (hR : ∀ a b, R a b = decide (s b < s a)) :
    sortedFrom R = sortedFrom fun a b => decide (beats s a b) := by
  have hp : sortPositions n R = sortPositions n fun a b => decide (beats s a b) := by
    refine stableSort_agree R _ (fun a b hab => ?_) _ (List.pairwise_lt_finRange n)
    rw [hR]
    exact decide_eq_decide.mpr ⟨Or.inl, fun hb => hb.elim id fun e => absurd e.2 (not_lt.mpr hab.le)⟩
  funext k
  unfold sortedFrom
  rw [List.get_of_eq hp]
  rfl

/-- The stable sort by "larger score first" has at place `k` the entry of rank `k`. -/
theorem rank_sortedFrom (s : Fin n → α) (R : Fin n → Fin n → Bool) (hR : ∀ a b, R a b = decide (s b < s a)) (k : Fin n) :
    rank s (sortedFrom R k) = k.val := by
  refine rank_of_sorted s _ (sortedFrom_injective R) (fun i j hij hb => ?_) k
  rw [sortedFrom_eq_beats s R hR] at hb
  have hn := sortedFrom_noInversion (fun a b => decide (beats s a b)) (fun a b => decide (beats s a b))
    (fun a b hab => by
      rw [decide_eq_true_iff] at hab
      exact decide_eq_false fun hba => beats_irrefl s a (beats_trans hab hba))
    (fun _ _ hab => hab)
    (fun a b c hab hbc => by
      rw [decide_eq_false_iff_not] at hab hbc ⊢
      intro hac
      by_cases e : a = b
      · subst e; exact hbc hac
      · rcases beats_total s e with hb' | hb'
        · exact hab hb'
        · exact hbc (beats_trans hb' hac)) i j hij
  exact (decide_eq_false_iff_not.mp hn) hb

/-- Every number below `n` is a rank. -/
theorem exists_rank (s : Fin n → α) (k : Nat) (hk : k < n) : ∃ i, rank s i = k :=
  ⟨sortedFrom (fun a b => decide (s b < s a)) ⟨k, hk⟩, rank_sortedFrom s _ (fun _ _ => rfl) ⟨k, hk⟩⟩

/-! ## The entry of rank `k`, among the entries of rank at least `k` -/

/-- An entry of no smaller rank has no larger score. -/
theorem score_le_of_rank_le {s : Fin n → α} {i j : Fin n} (h : rank s i ≤ rank s j) : s j ≤ s i := by
  by_contra hlt
  exact absurd (rank_lt_of_beats (s := s) (i := j) (j := i) (Or.inl (not_le.mp hlt))) (not_lt.mpr h)

/-- Among equal scores the smaller rank is at the smaller place. -/
theorem place_le_of_rank_le {s : Fin n → α} {i j : Fin n} (h : rank s i ≤ rank s j) (hs : s j = s i) : i ≤ j := by
  by_contra hlt
  exact absurd (rank_lt_of_beats (s := s) (i := j) (j := i) (Or.inr ⟨hs, not_le.mp hlt⟩)) (not_lt.mpr h)

end Cert.Ranking

end
-- ==== Proof.Rounds.lean ====
/-
  The kernel's selection as eight equal rounds, and the reductions over a row of 64 lanes as statements about the lanes.
-/
module

public import proofs.«01_k».proof.Proof.Consts
public import proofs.«01_k».proof.Proof.Ranking
public import Idealize.ShloMosaic.Lib.Pointwise.Reduce
public import Idealize.ShloMosaic.Lib.SortNet.Extract
public import Mathlib.Data.Finset.Fold

@[expose] public section

set_option maxRecDepth 16384

noncomputable section

namespace Cert.KernelIdeal.Value

open Cert.KernelIdeal Cert.KernelIdeal.Gen Idealize.ShloMosaic.ValueIdx
open Idealize.ShloMosaic hiding ix0 ix1 ix2 ix3

section Names

variable {F : FTy → Type} [FloatOps F] [Named F]

/-- The largest entry of a row, as the kernel reduces it. -/
def rowMax (v : FVec F S1x64 .f32) : F .f32 :=
  extractAt ![0, 0, 0] (shapeCast S1x1x1 (multiReduction .maximumf [1, 2] S1 (shapeCast S1x1x64 v shapeCasts_S1x64_S1x1x64)
    0xFF800000#32 reduces_S1x1x64_S1 (.inl rfl) rfl) shapeCasts_S1_S1x1x1) inpos_S1x1x1_p0_0_0

/-- The sum of a row's entries, as the kernel reduces it. -/
def rowSum (v : FVec F S1x64 .f32) : F .f32 :=
  extractAt ![0, 0, 0] (shapeCast S1x1x1 (multiReduction .add [1, 2] S1 (shapeCast S1x1x64 v shapeCasts_S1x64_S1x1x64)
    0x00000000#32 reduces_S1x1x64_S1 (.inl rfl) rfl) shapeCasts_S1_S1x1x1) inpos_S1x1x1_p0_0_0

/-- The least entry of a row of signed words, as the kernel reduces it. -/
def rowMin (w : IVec S1x64 32) : BitVec 32 :=
  extractAt ![0, 0, 0] (shapeCast S1x1x1 (multiReductionI .minsi [1, 2] S1 (shapeCast S1x1x64 w shapeCasts_S1x64_S1x1x64)
    2147483647#32 reduces_S1x1x64_S1 rfl) shapeCasts_S1_S1x1x1) inpos_S1x1x1_p0_0_0

/-- The scores with the lanes of `mask` put to minus infinity. -/
def hide (s : FVec F S1x64 .f32) (mask : IVec S1x64 1) : FVec F S1x64 .f32 :=
  select mask (broadcast S1x64 (Scalar.ofBits .f32 0xFF800000#32)) s

/-- The first lane at which the scores still available are largest. -/
def pick (avail : FVec F S1x64 .f32) : BitVec 32 :=
  rowMin (select (cmpf .oeq avail (broadcast S1x64 (rowMax avail))) lanes (broadcast S1x64 64#32))

/-- One round: the picked lane joins the mask. -/
def step (s : FVec F S1x64 .f32) (mask : IVec S1x64 1) : IVec S1x64 1 :=
  ori mask (cmpi .eq lanes (broadcast S1x64 (pick (hide s mask))))

/-- The mask after `n` rounds. -/
def picked (s : FVec F S1x64 .f32) : Nat → IVec S1x64 1
  | 0 => broadcast S1x64 0#1
  | n + 1 => step s (picked s n)

/-- With no lane masked the scores are unchanged. -/
theorem hide_none (s : FVec F S1x64 .f32) : hide s (broadcast S1x64 0#1) = s :=
  funext fun i => select_zero (Scalar.ofBits (F := F) .f32 0xFF800000#32) (s i)

/-- The first round, which the kernel prints on the scores themselves. -/
theorem first_round (s : FVec F S1x64 .f32) :
    picked s 1 = ori (broadcast S1x64 0#1) (cmpi .eq lanes (broadcast S1x64 (pick s))) := by
  show step s (broadcast S1x64 0#1) = _
  unfold step; rw [hide_none]

/-- The payload of the first two rounds. -/
theorem pay5_eq (t : Vec F S1x2048 .f32) (keys : Vec F S64x2048 .f32) :
    k0_pay5 t keys = picked (k0_pay4 t keys) 2 := by
  show _ = step (k0_pay4 t keys) (picked (k0_pay4 t keys) 1)
  rw [first_round]; rfl

/-- The mask the kernel computes is the mask after eight rounds. -/
theorem chosen_eq (t : Vec F S1x2048 .f32) (keys : Vec F S64x2048 .f32) :
    chosen t keys = picked (k0_pay4 t keys) 8 := by
  show k0_pay11 (k0_pay4 t keys) lanes
    (k0_pay8 (k0_pay4 t keys) lanes (k0_pay5 t keys) (hide (k0_pay4 t keys) (k0_pay5 t keys))
      (shapeCast S1x1x1 (multiReduction .maximumf [1, 2] S1 (shapeCast S1x1x64 (hide (k0_pay4 t keys) (k0_pay5 t keys)) shapeCasts_S1x64_S1x1x64)
        0xFF800000#32 reduces_S1x1x64_S1 (.inl rfl) rfl) shapeCasts_S1_S1x1x1)) _ _ = _
  rw [pay5_eq]; rfl

/-- The gate as a quotient: the exponentials of the chosen scores less their maximum, zero elsewhere, over their sum. -/
theorem gate_eq (t : Vec F S1x2048 .f32) (keys : Vec F S64x2048 .f32) (s : FVec F S1x64 .f32) (mask : IVec S1x64 1)
    (hs : k0_pay4 t keys = s) (hm : chosen t keys = mask) :
    gate t keys =
      divf (select mask (exp (subf (select mask s (broadcast S1x64 (Scalar.ofBits .f32 0xFF800000#32)))
          (broadcast S1x64 (rowMax (select mask s (broadcast S1x64 (Scalar.ofBits .f32 0xFF800000#32)))))))
        (broadcast S1x64 (Scalar.ofBits .f32 0x00000000#32)))
      (broadcast S1x64 (rowSum (select mask (exp (subf (select mask s (broadcast S1x64 (Scalar.ofBits .f32 0xFF800000#32)))
          (broadcast S1x64 (rowMax (select mask s (broadcast S1x64 (Scalar.ofBits .f32 0xFF800000#32)))))))
        (broadcast S1x64 (Scalar.ofBits .f32 0x00000000#32))))) := by
  subst hs hm; rfl

end Names

/-- An index of a one-row shape is its lane. -/
theorem lane_eq (k : S1x64.Idx) : k = ix2 (0 : Fin 1) (k 1) := by
  funext a
  match a with
  | ⟨0, _⟩ => exact Fin.ext (by have := (k 0).isLt; show (k 0).val = 0; exact Nat.lt_one_iff.mp this)
  | ⟨1, _⟩ => rfl

/-- A shape of one element has one index. -/
theorem one_index (i j : S1.Idx) : i = j := by
  funext a
  match a with
  | ⟨0, _⟩ => exact Fin.ext (by
      have h1 : (i 0).val < 1 := (i 0).isLt
      have h2 : (j 0).val < 1 := (j 0).isLt
      show (i 0).val = (j 0).val; omega)

/-- The lanes of a row, as the kernel reshapes it, are the lanes of the row. -/
theorem reshaped_lane {α : Type} (v : S1x64.Idx → α) (i : Fin 64) :
    ∃ j : S1x1x64.Idx, shapeCast S1x1x64 v shapeCasts_S1x64_S1x1x64 j = v (ix2 (0 : Fin 1) i) :=
  ⟨(Shape.reshapeEquiv shapeCasts_S1x64_S1x1x64).symm (ix2 (0 : Fin 1) i),
    congrArg v (Equiv.apply_symm_apply (Shape.reshapeEquiv shapeCasts_S1x64_S1x1x64) _)⟩

/-- Every entry of the reshaped row is a lane of the row. -/
theorem lane_of_reshaped {α : Type} (v : S1x64.Idx → α) (j : S1x1x64.Idx) :
    ∃ i : Fin 64, shapeCast S1x1x64 v shapeCasts_S1x64_S1x1x64 j = v (ix2 (0 : Fin 1) i) :=
  ⟨_, congrArg v (lane_eq (Shape.reshapeEquiv shapeCasts_S1x64_S1x1x64 j))⟩

/-- The row maximum as a fold of the maximum over the reshaped row. -/
theorem rowMax_fold (v : FVec Ideal S1x64 .f32) :
    rowMax v = (Finset.univ : Finset S1x1x64.Idx).fold max (⊥ : EReal) (shapeCast S1x1x64 v shapeCasts_S1x64_S1x1x64) := by
  have h : rowMax v = _ := multiReduction_maximumf_eq_fold (shapeCast S1x1x64 v shapeCasts_S1x64_S1x1x64) 0xFF800000#32
    reduces_S1x1x64_S1 (.inl rfl) rfl (Shape.reshapeEquiv shapeCasts_S1_S1x1x1 fun a => ⟨![0, 0, 0] a, inpos_S1x1x1_p0_0_0 a⟩)
  rw [h, Consts.ofBits_neg_inf, Finset.filter_true_of_mem fun i _ => one_index _ _]
  rfl

/-- The row minimum, read as an integer, is a fold of the minimum. -/
theorem rowMin_fold (w : IVec S1x64 32) :
    (rowMin w).toInt = (Finset.univ : Finset S1x1x64.Idx).fold min (2147483647 : Int)
      (fun j => (shapeCast S1x1x64 w shapeCasts_S1x64_S1x1x64 j).toInt) := by
  have h : rowMin w = _ := multiReductionI_eq_fold .minsi (shapeCast S1x1x64 w shapeCasts_S1x64_S1x1x64) 2147483647#32
    reduces_S1x1x64_S1 rfl (Shape.reshapeEquiv shapeCasts_S1_S1x1x1 fun a => ⟨![0, 0, 0] a, inpos_S1x1x1_p0_0_0 a⟩)
  rw [h, Finset.filter_true_of_mem fun i _ => one_index _ _]
  exact (Finset.fold_hom (op' := min) (m := fun b : BitVec 32 => b.toInt) (fun a b => SortNet.toInt_minsi a b)).symm

/-- Every entry of a row is at most its maximum. -/
theorem le_rowMax (v : FVec Ideal S1x64 .f32) (i : Fin 64) : (v (ix2 (0 : Fin 1) i) : EReal) ≤ rowMax v := by
  obtain ⟨j, hj⟩ := reshaped_lane v i
  rw [rowMax_fold]
  exact (Finset.le_fold_max _).mpr (.inr ⟨j, Finset.mem_univ _, le_of_eq hj.symm⟩)

/-- A bound of a row's entries bounds its maximum. -/
theorem rowMax_le (v : FVec Ideal S1x64 .f32) (b : EReal) (hb : ∀ i : Fin 64, (v (ix2 (0 : Fin 1) i) : EReal) ≤ b) :
    (rowMax v : EReal) ≤ b := by
  rw [rowMax_fold]
  refine (Finset.fold_max_le _).mpr ⟨bot_le, fun j _ => ?_⟩
  obtain ⟨i, hi⟩ := lane_of_reshaped v j
  exact le_of_eq_of_le hi (hb i)

/-- A word that a row attains and that no entry is below is the row's minimum. -/
theorem rowMin_eq (w : IVec S1x64 32) (i : Fin 64) (b : BitVec 32) (hi : w (ix2 (0 : Fin 1) i) = b)
    (hb : ∀ k : Fin 64, b.toInt ≤ (w (ix2 (0 : Fin 1) k)).toInt) : rowMin w = b := by
  apply BitVec.eq_of_toInt_eq
  rw [rowMin_fold]
  apply le_antisymm
  · obtain ⟨j, hj⟩ := reshaped_lane w i
    exact (Finset.fold_min_le _).mpr (.inr ⟨j, Finset.mem_univ _, by rw [hj, hi]⟩)
  · refine (Finset.le_fold_min _).mpr ⟨?_, fun j _ => ?_⟩
    · have := BitVec.toInt_lt (x := b); omega
    · obtain ⟨k, hk⟩ := lane_of_reshaped w j
      rw [hk]; exact hb k

/-- The row sum is the sum over the 64 lanes. -/
theorem rowSum_eq (v : FVec Ideal S1x64 .f32) : (rowSum v : EReal) = ∑ i : Fin 64, (v (ix2 (0 : Fin 1) i) : EReal) := by
  have h : rowSum v = _ := Ideal.multiReduction_add_total (shapeCast S1x1x64 v shapeCasts_S1x64_S1x1x64) 0x00000000#32
    reduces_S1x1x64_S1 (fun b => by match b with | ⟨0, _⟩ => rfl) (.inl rfl) rfl (Shape.reshapeEquiv shapeCasts_S1_S1x1x1 fun a => ⟨![0, 0, 0] a, inpos_S1x1x1_p0_0_0 a⟩)
  rw [h]
  show ∑ j : S1x1x64.Idx, (v (Shape.reshapeEquiv shapeCasts_S1x64_S1x1x64 j) : EReal) = _
  rw [Equiv.sum_comp (Shape.reshapeEquiv shapeCasts_S1x64_S1x1x64) (fun k => (v k : EReal))]
  have hs : ∑ k : S1x64.Idx, (v k : EReal) = ∑ a : Fin 1, ∑ i : Fin 64, (v (ix2 a i) : EReal) := ValueIdx.sum_idx2 _
  rw [hs, Fin.sum_univ_one]

end Cert.KernelIdeal.Value

end
-- ==== Proof.Selection.lean ====
/-
  The kernel's rounds choose by rank: after `n` rounds the mask holds the lanes of rank below `n`, for scores none of
  which is minus infinity.
-/
module

public import proofs.«01_k».proof.Proof.Rounds

@[expose] public section

set_option maxRecDepth 16384

noncomputable section

namespace Cert.KernelIdeal.Value

open Cert.KernelIdeal Cert.KernelIdeal.Gen Idealize.ShloMosaic.ValueIdx Cert.Ranking
open Idealize.ShloMosaic hiding ix0 ix1 ix2 ix3 sum_idx2

/-- The lane numbers, read at a lane. -/
theorem lanes_at (i : Fin 64) : lanes (ix2 (0 : Fin 1) i) = BitVec.ofNat 32 i.val := by
  simp [lanes, iota]

/-- A lane's number, read as an integer. -/
theorem toInt_lane (i : Fin 64) : (BitVec.ofNat 32 i.val).toInt = (i.val : Int) := by
  have h := i.isLt
  rw [BitVec.toInt_eq_toNat_cond, BitVec.toNat_ofNat, Nat.mod_eq_of_lt (by omega), if_pos (by omega)]

/-- Two lanes of equal number are the same lane. -/
theorem lane_inj {i j : Fin 64} (h : BitVec.ofNat 32 i.val = BitVec.ofNat 32 j.val) : i = j := by
  have := congrArg BitVec.toInt h
  rw [toInt_lane, toInt_lane] at this
  exact Fin.ext (by omega)

/-- The lanes equal to `m` by their number and the others by 64, read at a lane. -/
theorem lanes_where (avail : FVec Ideal S1x64 .f32) (m : Ideal .f32) (k : Fin 64) :
    select (cmpf .oeq avail (broadcast S1x64 m)) lanes (broadcast S1x64 64#32) (ix2 (0 : Fin 1) k)
      = if (avail (ix2 (0 : Fin 1) k) : EReal) = m then BitVec.ofNat 32 k.val else 64#32 := by
  show Scalar.select (BitVec.ofBool (decide ((avail (ix2 (0 : Fin 1) k) : EReal) = m))) (lanes (ix2 (0 : Fin 1) k)) 64#32 = _
  rw [lanes_at]
  by_cases h : (avail (ix2 (0 : Fin 1) k) : EReal) = m
  · rw [if_pos h, decide_eq_true h]; exact select_one _ _
  · rw [if_neg h, decide_eq_false h]; exact select_zero _ _

/-- A lane that holds the row's largest entry, and before every other lane that does, is the picked one. -/
theorem pick_eq (avail : FVec Ideal S1x64 .f32) (i : Fin 64)
    (hmax : ∀ k : Fin 64, (avail (ix2 (0 : Fin 1) k) : EReal) ≤ avail (ix2 (0 : Fin 1) i))
    (hfirst : ∀ k : Fin 64, (avail (ix2 (0 : Fin 1) k) : EReal) = avail (ix2 (0 : Fin 1) i) → i ≤ k) :
    pick avail = BitVec.ofNat 32 i.val := by
  have hm : (rowMax avail : EReal) = avail (ix2 (0 : Fin 1) i) :=
    le_antisymm (rowMax_le avail (avail (ix2 (0 : Fin 1) i)) hmax) (le_rowMax avail i)
  unfold pick
  have hsel := lanes_where avail (avail (ix2 (0 : Fin 1) i))
  rw [hm]
  refine rowMin_eq _ i _ ?_ fun k => ?_
  · rw [hsel, if_pos rfl]
  · rw [hsel, toInt_lane]
    split
    · next h => rw [toInt_lane]; exact_mod_cast hfirst k h
    · have := i.isLt
      show (i.val : Int) ≤ 64
      omega

/-- The scores with the lanes of rank below `n` put to minus infinity. -/
theorem hide_at (s : FVec Ideal S1x64 .f32) (mask : IVec S1x64 1) (p : Fin 64 → Prop) [DecidablePred p]
    (hmask : ∀ i : Fin 64, mask (ix2 (0 : Fin 1) i) = if p i then 1#1 else 0#1) (i : Fin 64) :
    (hide s mask (ix2 (0 : Fin 1) i) : EReal) = if p i then ⊥ else s (ix2 (0 : Fin 1) i) := by
  show Scalar.select (mask (ix2 (0 : Fin 1) i)) (FloatOps.ofBits .f32 0xFF800000#32 : Ideal .f32) (s (ix2 (0 : Fin 1) i)) = _
  rw [hmask, Consts.ofBits_neg_inf]
  split
  · exact select_one _ _
  · exact select_zero _ _

/-- A round, read at a lane. -/
theorem step_at (s : FVec Ideal S1x64 .f32) (mask : IVec S1x64 1) (i : Fin 64) :
    step s mask (ix2 (0 : Fin 1) i)
      = IntOp.ori (mask (ix2 (0 : Fin 1) i)) (BitVec.ofBool (BitVec.ofNat 32 i.val == pick (hide s mask))) := by
  unfold step
  generalize pick (hide s mask) = p
  show IntOp.ori (mask (ix2 (0 : Fin 1) i)) (BitVec.ofBool (lanes (ix2 (0 : Fin 1) i) == p)) = _
  rw [lanes_at]

/-- After `n ≤ 64` rounds the mask holds exactly the lanes of rank below `n`. -/
theorem picked_eq (s : FVec Ideal S1x64 .f32) (v : Fin 64 → EReal) (hv : ∀ i, (s (ix2 (0 : Fin 1) i) : EReal) = v i)
    (hbot : ∀ i, v i ≠ ⊥) (n : Nat) (hn : n ≤ 64) (i : Fin 64) :
    picked s n (ix2 (0 : Fin 1) i) = if rank v i < n then 1#1 else 0#1 := by
  induction n generalizing i with
  | zero => rw [if_neg (Nat.not_lt_zero _)]; rfl
  | succ n ih =>
    have ih := ih (by omega)
    obtain ⟨e, he⟩ := exists_rank v n (by omega)
    have hav : ∀ k, (hide s (picked s n) (ix2 (0 : Fin 1) k) : EReal) = if rank v k < n then ⊥ else v k := by
      intro k; rw [hide_at s _ (fun k => rank v k < n) ih k, hv]
    have hae : (hide s (picked s n) (ix2 (0 : Fin 1) e) : EReal) = v e := by
      rw [hav, if_neg (by omega)]
    have hp : pick (hide s (picked s n)) = BitVec.ofNat 32 e.val := by
      refine pick_eq _ e (fun k => ?_) (fun k hk => ?_)
      · rw [hae, hav]
        split
        · exact bot_le
        · next h => exact score_le_of_rank_le (by omega)
      · rw [hae, hav] at hk
        split at hk
        · exact absurd hk.symm (hbot e)
        · next h => exact place_le_of_rank_le (s := v) (by omega) hk
    have hs : picked s (n + 1) = step s (picked s n) := rfl
    rw [hs, step_at, hp, ih]
    by_cases h1 : rank v i < n
    · rw [if_pos h1, if_pos (by omega)]
      cases (BitVec.ofNat 32 i.val == BitVec.ofNat 32 e.val) <;> rfl
    · rw [if_neg h1]
      by_cases h2 : i = e
      · subst h2
        rw [if_pos (by omega), beq_self_eq_true]; rfl
      · have hne : rank v i ≠ n := fun h => h2 (rank_injective v (h.trans he.symm))
        rw [if_neg (by omega), beq_eq_false_iff_ne.mpr fun h => h2 (lane_inj h)]; rfl

end Cert.KernelIdeal.Value

end
-- ==== Proof.Masked.lean ====
/-
  The reference's selection: its scattered scores hold a score where the rank is below eight and minus infinity elsewhere.
-/
module

public import proofs.«01_k».proof.Proof.Selection
public import proofs.«01_k».proof.Proof.Gen.ReferenceIdeal.Run
public import Idealize.ShloMosaic.Lib.Routing.OpsSet
public import Idealize.ShloMosaic.Lib.Routing.OpsPair

@[expose] public section

set_option maxRecDepth 16384

noncomputable section

namespace Cert.ReferenceIdeal.Value

open Cert.ReferenceIdeal Cert.ReferenceIdeal.Gen Cert.Ranking
open Idealize.ShloMosaic

section Names

variable {F : FTy → Type} [FloatOps F]

/-- The eight largest scores and their places. -/
def top (sc : FVec F S64 .f32) : (S8.Idx → F .f32) × IVec S8 32 :=
  Host.topK S8 0 (FloatOps.cmpfTotal .gt) sc sliceFits_S64_S8

/-- The places as a column of indices, a negative one counted from the end. -/
def places (p : IVec S8 32) : IVec S8x1 32 :=
  broadcastInDim S8x1 ![0] bcast_S8_S8x1_0 (select (cmpi .slt p (broadcastInDim S8 ![] bcast_S_S8 (constantI S_ 32 0#32)))
    (addi p (broadcastInDim S8 ![] bcast_S_S8 (constantI S_ 32 64#32))) p)

/-- The chosen scores scattered into a row of minus infinity. -/
def masked (sc : FVec F S64 .f32) : FVec F S64 .f32 :=
  Host.scatter scatter_S64_S8x1_S8_n_0_0_1 (fun _ b => b) (broadcastInDim S64 ![] bcast_S_S64 (constant S_ .f32 0xFF800000#32))
    (places (top sc).2) (top sc).1

end Names

/-- The index of a vector of 64 at place `i`. -/
def at64 (i : Fin 64) : S64.Idx := ValueIdx.ix1 i

/-- The index of a vector of eight at place `k`. -/
def at8 (k : Fin 8) : S8.Idx := ValueIdx.ix1 k

/-- Every index of a vector of eight is a place. -/
theorem at8_eq (k : S8.Idx) : k = at8 (k 0) := by
  funext a
  match a with
  | ⟨0, _⟩ => rfl

/-- Every index of a vector of 64 is a place. -/
theorem at64_eq (k : S64.Idx) : k = at64 (k 0) := by
  funext a
  match a with
  | ⟨0, _⟩ => rfl

/-- A vector's index moved along its one axis. -/
def move (j : S64.Idx) (k : Fin 64) : S64.Idx := j.along (0 : Fin 1) k

/-- The place of a vector's index. -/
def placeIn (j : S64.Idx) : Fin 64 := j (0 : Fin 1)

/-- Moving a vector's index along its one axis gives the index moved to. -/
theorem move_eq (j : S64.Idx) (k : Fin 64) : move j k = at64 k := by
  funext a
  match a with
  | ⟨0, _⟩ => exact Function.update_self (0 : Fin 1) k j

/-- The permutation of a sort along the one axis, whatever the index it is moved along. -/
theorem perm_eq {α : Type} (gt : α → α → BitVec 1) (x : S64.Idx → α) (j : S64.Idx) (q : Fin 64) :
    sortedFrom (fun a b : Fin 64 => gt (x (move j a)) (x (move j b)) == 1#1) q
      = sortedFrom (fun a b : Fin 64 => gt (x (at64 a)) (x (at64 b)) == 1#1) q := by
  have hR : (fun a b : Fin 64 => gt (x (move j a)) (x (move j b)) == 1#1)
      = fun a b : Fin 64 => gt (x (at64 a)) (x (at64 b)) == 1#1 := by
    funext a b
    exact congrArg₂ (fun p r => gt (x p) (x r) == 1#1) (move_eq j a) (move_eq j b)
  rw [hR]

/-- A sort of two vectors, read at a place. -/
theorem sort2_at {α β : Type} (gt : α → α → BitVec 1) (x : S64.Idx → α) (y : S64.Idx → β) (j : S64.Idx) :
    (Host.sort2 S64 0 (fun l r : α × β => gt l.1 r.1) x y).1 j
        = x (at64 (sortedFrom (fun a b : Fin 64 => gt (x (at64 a)) (x (at64 b)) == 1#1) (placeIn j)))
      ∧ (Host.sort2 S64 0 (fun l r : α × β => gt l.1 r.1) x y).2 j
        = y (at64 (sortedFrom (fun a b : Fin 64 => gt (x (at64 a)) (x (at64 b)) == 1#1) (placeIn j))) := by
  constructor
  · have h : (Host.sort2 S64 0 (fun l r : α × β => gt l.1 r.1) x y).1 j
        = x (move j (sortedFrom (fun a b : Fin 64 => gt (x (move j a)) (x (move j b)) == 1#1) (placeIn j))) := rfl
    rw [h, move_eq, perm_eq]
  · have h : (Host.sort2 S64 0 (fun l r : α × β => gt l.1 r.1) x y).2 j
        = y (move j (sortedFrom (fun a b : Fin 64 => gt (x (move j a)) (x (move j b)) == 1#1) (placeIn j))) := rfl
    rw [h, move_eq, perm_eq]

/-- The place a sort by `gt` puts at `k`. -/
def placeBy {α : Type} (gt : α → α → BitVec 1) (x : S64.Idx → α) (k : Fin 8) : Fin 64 :=
  sortedFrom (fun a b : Fin 64 => gt (x (at64 a)) (x (at64 b)) == 1#1) ⟨k.val, by omega⟩

/-- The first eight places of a vector of 64, read at one. -/
theorem slice_at {α : Type} (y : S64.Idx → α) (k : Fin 8) :
    extractStridedSlice S8 (fun _ => 0) y sliceFits_S64_S8 (at8 k) = y (at64 ⟨k.val, by omega⟩) := by
  refine congrArg y (funext fun a => Fin.ext ?_)
  match a with
  | ⟨0, _⟩ => exact Nat.zero_add _

/-- The numbers of the places, which the sort carries along. -/
def numbers (i : S64.Idx) : BitVec 32 := if hd : 0 < S64.rank then iotaInDim S64 32 ⟨0, hd⟩ i else 0#32

/-- A place's number. -/
theorem numbers_at (q : Fin 64) : numbers (at64 q) = BitVec.ofNat 32 q.val := rfl

/-- The `k`-th largest value. -/
theorem topK_value {α : Type} (gt : α → α → BitVec 1) (x : S64.Idx → α) (k : Fin 8) :
    (Host.topK S8 0 gt x sliceFits_S64_S8).1 (at8 k) = x (at64 (placeBy gt x k)) := by
  have h : (Host.topK S8 0 gt x sliceFits_S64_S8).1
      = extractStridedSlice S8 (fun _ => 0) (Host.sort2 S64 0 (fun l r : α × BitVec 32 => gt l.1 r.1) x numbers).1 sliceFits_S64_S8 := rfl
  rw [h, slice_at, (sort2_at gt x numbers _).1]
  rfl

/-- The place of the `k`-th largest value. -/
theorem topK_place {α : Type} (gt : α → α → BitVec 1) (x : S64.Idx → α) (k : Fin 8) :
    (Host.topK S8 0 gt x sliceFits_S64_S8).2 (at8 k) = BitVec.ofNat 32 (placeBy gt x k).val := by
  have h : (Host.topK S8 0 gt x sliceFits_S64_S8).2
      = extractStridedSlice S8 (fun _ => 0) (Host.sort2 S64 0 (fun l r : α × BitVec 32 => gt l.1 r.1) x numbers).2 sliceFits_S64_S8 := rfl
  rw [h, slice_at, (sort2_at gt x numbers _).2, numbers_at]
  rfl

/-- Sorted by "the larger score first", the `k`-th place is the one of rank `k`. -/
theorem rank_placeBy {α : Type} (gt : α → α → BitVec 1) (x : S64.Idx → α) (v : Fin 64 → EReal)
    (h : ∀ a b, (gt (x (at64 a)) (x (at64 b)) == 1#1) = decide (v b < v a)) (k : Fin 8) : rank v (placeBy gt x k) = k.val :=
  rank_sortedFrom v (fun a b : Fin 64 => gt (x (at64 a)) (x (at64 b)) == 1#1) h ⟨k.val, by omega⟩

/-- The place of the `k`-th largest score. -/
def placeOf (sc : FVec Ideal S64 .f32) (k : Fin 8) : Fin 64 := placeBy (FloatOps.cmpfTotal .gt) sc k

/-- The reference's order is "the larger score first". -/
theorem order_eq (x y : Ideal .f32) :
    (FloatOps.cmpfTotal .gt x y == 1#1) = decide ((y : EReal) < x) := by
  show (BitVec.ofBool (decide ((y : EReal) < x)) == 1#1) = _
  cases decide ((y : EReal) < x) <;> rfl

/-- The `k`-th chosen value is the score at the `k`-th place. -/
theorem top_value (sc : FVec Ideal S64 .f32) (k : Fin 8) : (top sc).1 (at8 k) = sc (at64 (placeOf sc k)) :=
  topK_value _ sc k

/-- The `k`-th chosen place, as a word. -/
theorem top_place (sc : FVec Ideal S64 .f32) (k : Fin 8) : (top sc).2 (at8 k) = BitVec.ofNat 32 (placeOf sc k).val :=
  topK_place _ sc k

/-- The places are those of ranks zero to seven. -/
theorem rank_placeOf (sc : FVec Ideal S64 .f32) (v : Fin 64 → EReal) (hv : ∀ i, (sc (at64 i) : EReal) = v i) (k : Fin 8) :
    rank v (placeOf sc k) = k.val :=
  rank_placeBy _ sc v (fun a b => (order_eq (sc (at64 a)) (sc (at64 b))).trans (by rw [hv, hv])) k

/-- The column of indices holds the chosen places. -/
theorem places_at (p : IVec S8 32) (k : Fin 8) (i : Fin 64) (hp : p (at8 k) = BitVec.ofNat 32 i.val) (j : S8x1.Idx)
    (hj : (j 0).val = k.val) : places p j = BitVec.ofNat 32 i.val := by
  have hk : places p j = Scalar.select (IntOp.cmpi .slt (p (at8 k)) 0#32) (IntOp.addi (p (at8 k)) 64#32) (p (at8 k)) := by
    unfold places
    rw [broadcastInDim_apply _ _ _ j (at8 k) (fun a => by match a with | ⟨0, _⟩ => exact hj.symm)]
    rfl
  rw [hk, hp]
  have hn : IntOp.cmpi .slt (BitVec.ofNat 32 i.val) 0#32 = 0#1 := by
    show BitVec.ofBool ((BitVec.ofNat 32 i.val).slt 0#32) = 0#1
    have : (BitVec.ofNat 32 i.val).slt 0#32 = false := by
      rw [BitVec.slt, Cert.KernelIdeal.Value.toInt_lane]
      exact decide_eq_false (by simp)
    rw [this]; rfl
  rw [hn]; rfl

/-- Update `k` lands at the place its index names. -/
theorem lands (idx : IVec S8x1 32) (k : Fin 8) (i : Fin 64)
    (hidx : ∀ j : S8x1.Idx, (j 0).val = k.val → idx j = BitVec.ofNat 32 i.val) (e : Fin 64) :
    scatter_S64_S8x1_S8_n_0_0_1.resultIdx? (at8 k) idx = some (at64 e) ↔ i = e := by
  have hw : scatter_S64_S8x1_S8_n_0_0_1.window (at8 k) (0 : Fin 1) = 0 := by
    unfold ScatterDims.window
    exact dif_neg fun h => (of_decide_eq_true (List.mem_filter.1 h).2) (List.mem_singleton.2 rfl)
  have hst : scatter_S64_S8x1_S8_n_0_0_1.start (at8 k) idx (0 : Fin 1) = (i.val : Int) := by
    unfold ScatterDims.start
    refine (dif_pos (List.mem_singleton.2 rfl)).trans ?_
    refine (congrArg BitVec.toInt (hidx _ ?_)).trans (Cert.KernelIdeal.Value.toInt_lane i)
    unfold ScatterDims.siIdx
    refine (congrArg Fin.val (dif_neg (by exact Nat.zero_ne_one))).trans ?_
    rfl
  rw [Routing.resultIdx?_eq_some]
  constructor
  · intro h
    have h0 := h (0 : Fin 1)
    rw [hst, hw] at h0
    have h1 : ((at64 e (0 : Fin 1)).val : Int) = (e.val : Int) := rfl
    rw [h1] at h0
    exact Fin.ext (by omega)
  · rintro rfl a
    match a with
    | ⟨0, _⟩ =>
      have := congrArg₂ (fun (x : Int) (y : Nat) => x + (y : Int)) hst hw
      refine Eq.trans this ?_
      show (i.val : Int) + 0 = (i.val : Int)
      omega

/-- The scattered scores hold a score where the rank is below eight and minus infinity elsewhere. -/
theorem masked_eq (sc : FVec Ideal S64 .f32) (v : Fin 64 → EReal) (hv : ∀ i, (sc (at64 i) : EReal) = v i) (i : Fin 64) :
    (masked sc (at64 i) : EReal) = if rank v i < 8 then v i else ⊥ := by
  have hrank := rank_placeOf sc v hv
  have hl : ∀ (k : Fin 8) (e : Fin 64),
      scatter_S64_S8x1_S8_n_0_0_1.resultIdx? (at8 k) (places (top sc).2) = some (at64 e) ↔ placeOf sc k = e :=
    fun k e => lands _ k _ (fun j hj => places_at _ k _ (top_place sc k) j hj) e
  by_cases h : rank v i < 8
  · rw [if_pos h]
    refine Routing.scatter_set_hit _ _ _ _ (at64 i) _ (fun k hk => ?_) (at8 ⟨rank v i, h⟩) ?_
    · obtain ⟨q, rfl⟩ : ∃ q, k = at8 q := ⟨_, at8_eq k⟩
      rw [top_value, (hl q i).mp hk]
      exact hv i
    · exact (hl _ _).mpr (rank_injective v (hrank _))
  · rw [if_neg h]
    have hm := Routing.scatter_set_miss scatter_S64_S8x1_S8_n_0_0_1
      (broadcastInDim S64 ![] bcast_S_S64 (constant (F := Ideal) S_ .f32 0xFF800000#32)) (places (top sc).2) (top sc).1 (at64 i)
      (fun k hk => by
        obtain ⟨q, rfl⟩ : ∃ q, k = at8 q := ⟨_, at8_eq k⟩
        have := hrank q
        rw [(hl q i).mp hk] at this
        exact h (this ▸ q.isLt))
    unfold masked
    rw [hm]
    exact Consts.ofBits_neg_inf

end Cert.ReferenceIdeal.Value

end
-- ==== Proof.Softmax.lean ====
/-
  Both programs end in the same softmax of the masked scores.
-/
module

public import proofs.«01_k».proof.Proof.Masked

@[expose] public section

set_option maxRecDepth 16384

noncomputable section

/-! ## The softmax of 64 extended reals -/

namespace Cert.Soft

open Idealize.ShloMosaic

/-- The scores of rank below eight, minus infinity elsewhere. -/
def keep (v : Fin 64 → EReal) (i : Fin 64) : EReal := if Ranking.rank v i < 8 then v i else ⊥

/-- The largest of 64 entries. -/
def peak (L : Fin 64 → EReal) : EReal := (Finset.univ : Finset (Fin 64)).sup L

/-- The exponential of an entry less the largest. -/
def weight (L : Fin 64 → EReal) (i : Fin 64) : EReal := Ideal.exp (L i - peak L)

/-- The softmax: each weight over the sum of the weights. -/
def softmax (L : Fin 64 → EReal) (i : Fin 64) : EReal := Ideal.div (weight L i) (∑ j, weight L j)

/-- Minus infinity has weight zero. -/
theorem weight_bot (L : Fin 64 → EReal) (i : Fin 64) (h : L i = ⊥) : weight L i = 0 := by
  unfold weight
  rw [h, sub_eq_add_neg, EReal.bot_add, Ideal.exp_bot]

end Cert.Soft

/-! ## The kernel's end -/

namespace Cert.KernelIdeal.Value

open Cert.KernelIdeal Cert.KernelIdeal.Gen Idealize.ShloMosaic.ValueIdx Cert.Soft
open Idealize.ShloMosaic hiding ix0 ix1 ix2 ix3 sum_idx2

/-- The largest of a row whose lanes are `L`. -/
theorem rowMax_peak (x : FVec Ideal S1x64 .f32) (L : Fin 64 → EReal) (hx : ∀ i, (x (ix2 (0 : Fin 1) i) : EReal) = L i) :
    (rowMax x : EReal) = peak L := by
  apply le_antisymm
  · exact rowMax_le x (peak L) fun i => (hx i).le.trans (Finset.le_sup (Finset.mem_univ i))
  · exact Finset.sup_le fun i _ => (hx i).symm.le.trans (le_rowMax x i)

/-- The kernel's weights, read at a lane. -/
theorem weights_at (mask : IVec S1x64 1) (x : FVec Ideal S1x64 .f32) (mx : Ideal .f32) (L : Fin 64 → EReal)
    (p : Fin 64 → Prop) [DecidablePred p] (hmask : ∀ i : Fin 64, mask (ix2 (0 : Fin 1) i) = if p i then 1#1 else 0#1)
    (hx : ∀ i, (x (ix2 (0 : Fin 1) i) : EReal) = L i) (hmx : (mx : EReal) = peak L) (hp : ∀ i, ¬p i → L i = ⊥) (i : Fin 64) :
    (select mask (exp (subf x (broadcast S1x64 mx))) (broadcast S1x64 (Scalar.ofBits (F := Ideal) .f32 0x00000000#32)) (ix2 (0 : Fin 1) i) : EReal)
      = weight L i := by
  show (Scalar.select (mask (ix2 (0 : Fin 1) i)) (Ideal.exp ((x (ix2 (0 : Fin 1) i) : EReal) - (mx : EReal)))
    (FloatOps.ofBits .f32 0x00000000#32 : Ideal .f32) : EReal) = _
  rw [hmask, hx, hmx]
  by_cases h : p i
  · rw [if_pos h, select_one]; rfl
  · rw [if_neg h, select_zero, weight_bot L i (hp i h)]
    exact Ideal.ofBits_zero_f32

/-- The kernel's gate is the softmax of the scores it kept, for scores none of which is minus infinity. -/
theorem gate_softmax (t : Vec Ideal S1x2048 .f32) (keys : Vec Ideal S64x2048 .f32) (v : Fin 64 → EReal)
    (hv : ∀ i, (k0_pay4 t keys (ix2 (0 : Fin 1) i) : EReal) = v i) (hbot : ∀ i, v i ≠ ⊥) (i : Fin 64) :
    (gate t keys (ix2 (0 : Fin 1) i) : EReal) = softmax (keep v) i := by
  rw [gate_eq t keys _ _ rfl rfl]
  have hmask : ∀ i : Fin 64, chosen t keys (ix2 (0 : Fin 1) i) = if Ranking.rank v i < 8 then 1#1 else 0#1 := by
    intro i; rw [chosen_eq]; exact picked_eq _ v hv hbot 8 (by omega) i
  have hx : ∀ i : Fin 64, (select (chosen t keys) (k0_pay4 t keys) (broadcast S1x64 (Scalar.ofBits (F := Ideal) .f32 0xFF800000#32)) (ix2 (0 : Fin 1) i) : EReal)
      = keep v i := by
    intro i
    show (Scalar.select (chosen t keys (ix2 (0 : Fin 1) i)) (k0_pay4 t keys (ix2 (0 : Fin 1) i))
      (FloatOps.ofBits .f32 0xFF800000#32 : Ideal .f32) : EReal) = _
    rw [hmask, Consts.ofBits_neg_inf]
    unfold keep
    by_cases h : Ranking.rank v i < 8
    · rw [if_pos h, if_pos h, select_one, hv]
    · rw [if_neg h, if_neg h, select_zero]
  generalize select (chosen t keys) (k0_pay4 t keys) (broadcast S1x64 (Scalar.ofBits (F := Ideal) .f32 0xFF800000#32)) = x at hx ⊢
  generalize chosen t keys = mask at hmask ⊢
  have hmx := rowMax_peak x _ hx
  generalize rowMax x = mx at hmx ⊢
  have hw := weights_at mask x mx (keep v) (fun i => Ranking.rank v i < 8) hmask hx hmx (fun i h => if_neg h)
  generalize select mask (exp (subf x (broadcast S1x64 mx))) (broadcast S1x64 (Scalar.ofBits (F := Ideal) .f32 0x00000000#32)) = w at hw ⊢
  have hs := rowSum_eq w
  rw [Finset.sum_congr rfl fun i _ => hw i] at hs
  generalize rowSum w = sm at hs ⊢
  show Ideal.div (w (ix2 (0 : Fin 1) i) : EReal) (sm : EReal) = _
  rw [hw, hs]; rfl

end Cert.KernelIdeal.Value

/-! ## The reference's end -/

namespace Cert.ReferenceIdeal.Value

open Cert.ReferenceIdeal Cert.ReferenceIdeal.Gen Cert.Soft
open Idealize.ShloMosaic

section Names

variable {F : FTy → Type} [FloatOps F]

/-- One number, held in every place of a vector of 64. -/
def spread (x : FVec F S_ .f32) : FVec F S64 .f32 :=
  broadcastInDim S64 ![0] bcast_S1_S64_0 (broadcastInDim S1 ![] bcast_S_S1 x)

/-- The masked scores over one. -/
def logits (sc : FVec F S64 .f32) : FVec F S64 .f32 :=
  Host.divf (masked sc) (broadcastInDim S64 ![] bcast_S_S64 (constant S_ .f32 0x3F800000#32))

/-- The largest of a vector, from minus infinity. -/
def largest (x : FVec F S64 .f32) : FVec F S_ .f32 :=
  maximumf (constant S_ .f32 0xFF800000#32) (Host.reduce FloatOps.maximumf x (constant S_ .f32 0xFF800000#32) reducesTo_S64_S_d0 h_S_)

/-- The exponentials of the entries less the largest. -/
def weights (x : FVec F S64 .f32) : FVec F S64 .f32 := Host.exp (subf x (spread (largest x)))

/-- The reference's softmax. -/
def refGate (sc : FVec F S64 .f32) : FVec F S64 .f32 :=
  Host.divf (weights (logits sc)) (spread (Host.reduceAdd (weights (logits sc)) (constant S_ .f32 0x00000000#32) reducesTo_S64_S_d0 h_S_))

/-- The reference's scores, of the context, the keys and the two weights. -/
def scores (x : FVec F S2048 .f32) (keys : FVec F S64x2048 .f32) (wq wk : FVec F S2048x2048 .f32) : FVec F S64 .f32 :=
  mulf (Host.dotGeneral dot_S64x2048_S2048_S64_1_0_0_n_n_n none
      (Host.dotGeneral dot_S64x2048_S2048x2048_S64x2048_1_0_0_1_n_n none keys
        (transpose S2048x2048 [1, 0] wk transposes_S2048x2048_S2048x2048_1_0))
      (Host.dotGeneral dot_S2048x2048_S2048_S2048_1_0_0_n_n_n none wq x))
    (broadcastInDim S64 ![] bcast_S_S64 (Host.divf (constant S_ .f32 0x3F800000#32) (Host.sqrt (constant S_ .f32 0x45000000#32))))

/-- The reference's result is its softmax of its scores. -/
theorem res_eq (m : (ℓ : Loc nD τ sig) → Buf (Elt F) ℓ) (c : Dev nD) :
    res_main_v27 m c = refGate (scores (m ((c.tc : Thread nD τ).loc main_arg1)) (m ((c.tc : Thread nD τ).loc main_arg2))
      (m ((c.tc : Thread nD τ).loc main_arg3)) (m ((c.tc : Thread nD τ).loc main_arg4))) := rfl

end Names

/-- The one index of a scalar. -/
theorem scalar_index (j : S_.Idx) : j = ValueIdx.ix0 := funext fun a => a.elim0

/-- A number held in every place, read at one. -/
theorem spread_at (x : FVec Ideal S_ .f32) (i : Fin 64) : spread x (at64 i) = x ValueIdx.ix0 := by
  unfold spread broadcastInDim
  exact congrArg x (funext fun a => a.elim0)

/-- The largest of a vector whose places hold `L`. -/
theorem largest_eq (x : FVec Ideal S64 .f32) (L : Fin 64 → EReal) (hx : ∀ i, (x (at64 i) : EReal) = L i) :
    (largest x ValueIdx.ix0 : EReal) = peak L := by
  have h1 : (largest x ValueIdx.ix0 : EReal)
      = max (FloatOps.ofBits .f32 0xFF800000#32 : Ideal .f32)
        (Host.reduce (FloatOps.maximumf (F := Ideal) (φ := .f32)) x (constant (F := Ideal) S_ .f32 0xFF800000#32) reducesTo_S64_S_d0 h_S_ ValueIdx.ix0) := rfl
  have h2 : (Host.reduce (FloatOps.maximumf (F := Ideal) (φ := .f32)) x (constant (F := Ideal) S_ .f32 0xFF800000#32) reducesTo_S64_S_d0 h_S_ ValueIdx.ix0 : EReal)
      = (Finset.univ : Finset S64.Idx).fold max (⊥ : EReal) (fun j => x j) := by
    rw [Host.reduce_eq_fold, Finset.filter_true_of_mem fun i _ => (scalar_index _).trans (scalar_index _).symm]
    exact congrArg (fun b : EReal => (Finset.univ : Finset S64.Idx).fold max b (fun j => (x j : EReal))) Consts.ofBits_neg_inf
  rw [h1, h2, Consts.ofBits_neg_inf, max_eq_right bot_le]
  apply le_antisymm
  · refine (Finset.fold_max_le _).mpr ⟨bot_le, fun j _ => ?_⟩
    obtain ⟨q, rfl⟩ : ∃ q, j = at64 q := ⟨_, at64_eq j⟩
    exact (hx q).le.trans (Finset.le_sup (Finset.mem_univ q))
  · exact Finset.sup_le fun i _ => (Finset.le_fold_max _).mpr (.inr ⟨at64 i, Finset.mem_univ _, (hx i).symm.le⟩)

/-- A sum over a vector's indices is the sum over its places. -/
theorem sum_places (x : S64.Idx → EReal) : ∑ j, x j = ∑ i : Fin 64, x (at64 i) :=
  (Function.Bijective.sum_comp (e := at64)
    ⟨fun a b h => congrFun h (0 : Fin 1), fun j => ⟨_, (at64_eq j).symm⟩⟩ x).symm

/-- The reference's gate is the softmax of the scores of rank below eight. -/
theorem refGate_softmax (sc : FVec Ideal S64 .f32) (v : Fin 64 → EReal) (hv : ∀ i, (sc (at64 i) : EReal) = v i) (i : Fin 64) :
    (refGate sc (at64 i) : EReal) = softmax (keep v) i := by
  have hL : ∀ i, (logits sc (at64 i) : EReal) = keep v i := by
    intro i
    show Ideal.div (masked sc (at64 i) : EReal) (FloatOps.ofBits .f32 0x3F800000#32 : Ideal .f32) = _
    rw [Consts.ofBits_one, Consts.div_one, masked_eq sc v hv]; rfl
  have hw : ∀ i, (weights (logits sc) (at64 i) : EReal) = weight (keep v) i := by
    intro i
    show Ideal.exp ((logits sc (at64 i) : EReal) - (spread (largest (logits sc)) (at64 i) : EReal)) = _
    rw [spread_at, largest_eq _ _ hL, hL]; rfl
  have hs : (Host.reduceAdd (weights (logits sc)) (constant (F := Ideal) S_ .f32 0x00000000#32) reducesTo_S64_S_d0 h_S_ ValueIdx.ix0 : EReal)
      = ∑ j, weight (keep v) j := by
    have h := Ideal.hostReduceAdd_total reducesTo_S64_S_d0 (fun b => b.elim0) (fun j => (weights (logits sc) j : EReal))
      (FloatOps.ofBits .f32 0x00000000#32 : Ideal .f32) ValueIdx.ix0
    refine Eq.trans h ?_
    rw [show (FloatOps.ofBits .f32 0x00000000#32 : Ideal .f32) = (0 : EReal) from Ideal.ofBits_zero_f32, zero_add, sum_places]
    exact Finset.sum_congr rfl fun j _ => hw j
  show Ideal.div (weights (logits sc) (at64 i) : EReal) (spread (F := Ideal) _ (at64 i)) = _
  rw [spread_at, hw, hs]; rfl

end Cert.ReferenceIdeal.Value

end
-- ==== Proof.KernelScores.lean ====
/-
  The kernel's scores as sums: the finished row is the sum over all 2048 rows of the two weights, a half from each point,
  and a score is its product with the expert's key, scaled.
-/
module

public import proofs.«01_k».proof.Proof.Softmax

@[expose] public section

set_option maxRecDepth 16384

noncomputable section

namespace Cert.KernelIdeal.Value

open Cert.KernelIdeal Cert.KernelIdeal.Gen Idealize.ShloMosaic.ValueIdx
open Idealize.ShloMosaic hiding ix0 ix1 ix2 ix3 sum_idx2

/-- A row-by-row sum reads the row. -/
theorem lift_row (k : Fin 1024) (l : Fin 2048) :
    Shape.Reduces.lift reduces_S1024x2048_S1024 (ix1 k) l = ix2 k l := by
  funext c
  apply Fin.ext
  match c with
  | ⟨0, _⟩ => rfl
  | ⟨1, _⟩ => rfl

/-- A column-by-column sum reads the column. -/
theorem lift_col (j : Fin 2048) (k : Fin 1024) :
    Shape.Reduces.lift reduces_S1024x2048_S2048 (ix1 j) k = ix2 k j := by
  funext c
  apply Fin.ext
  match c with
  | ⟨0, _⟩ => rfl
  | ⟨1, _⟩ => rfl

/-- A row's sum. -/
theorem sum_row (y : FVec Ideal S1024x2048 .f32) (k : Fin 1024) :
    (multiReduction .add [1] S1024 y 0x00000000#32 reduces_S1024x2048_S1024 (.inl rfl) rfl (ix1 k) : EReal)
      = ∑ l : Fin 2048, (y (ix2 k l) : EReal) := by
  refine Eq.trans (Ideal.multiReduction_add_single y 0x00000000#32 reduces_S1024x2048_S1024 (.inl rfl) rfl (ix1 k)) ?_
  exact Finset.sum_congr rfl fun l _ => congrArg y (lift_row k l)

/-- A column's sum. -/
theorem sum_col (y : FVec Ideal S1024x2048 .f32) (j : Fin 2048) :
    (multiReduction .add [0] S2048 y 0x00000000#32 reduces_S1024x2048_S2048 (.inl rfl) rfl (ix1 j) : EReal)
      = ∑ k : Fin 1024, (y (ix2 k j) : EReal) := by
  refine Eq.trans (Ideal.multiReduction_add_single y 0x00000000#32 reduces_S1024x2048_S2048 (.inl rfl) rfl (ix1 j)) ?_
  exact Finset.sum_congr rfl fun k _ => congrArg y (lift_col j k)

/-- A row repeated down a block, read at an entry. -/
theorem down_at {α : Type} (y : S1x2048.Idx → α) (k : Fin 1024) (l : Fin 2048) :
    broadcastTo S1024x2048 y broadcasts_S1x2048_S1024x2048 (ix2 k l) = y (ix2 (0 : Fin 1) l) := by
  refine broadcastTo_apply y _ _ _ fun a => ?_
  match a with
  | ⟨0, _⟩ => rfl
  | ⟨1, _⟩ => rfl

/-- A column of sums repeated across a block, read at an entry. -/
theorem across_at {α : Type} (y : S1024.Idx → α) (k : Fin 1024) (l : Fin 2048) :
    broadcastTo S1024x2048 (shapeCast S1024x1 y shapeCasts_S1024_S1024x1) broadcasts_S1024x1_S1024x2048 (ix2 k l) = y (ix1 k) := by
  refine (broadcastTo_apply _ _ _ (ix2 k (0 : Fin 1)) fun a => ?_).trans ?_
  · match a with
    | ⟨0, _⟩ => rfl
    | ⟨1, _⟩ => rfl
  · refine shapeCast_apply y _ _ (ix1 k) ?_
    refine (Shape.rowMajor_val_one (d := ![1024]) (ix1 k)).trans (Eq.trans ?_ (Shape.rowMajor_val_two (d := ![1024, 1]) (ix2 k (0 : Fin 1))).symm)
    show k.val = k.val * 1 + 0
    omega

/-- A vector as a row, read at an entry. -/
theorem asRow_at {α : Type} (y : S2048.Idx → α) (j : Fin 2048) :
    shapeCast S1x2048 y shapeCasts_S2048_S1x2048 (ix2 (0 : Fin 1) j) = y (ix1 j) := by
  refine (shapeCast_addUnit_apply _ y _ _).trans (congrArg y (funext fun a => ?_))
  match a with
  | ⟨0, _⟩ => rfl

/-- A point's contribution, added to the row it found: the sum over the block's rows of the row's product with the
    context times the row's entry of the other weight. -/
theorem pay2_at (wq wk : FVec Ideal S1024x2048 .f32) (c acc : FVec Ideal S1x2048 .f32) (j : Fin 2048) :
    (k0_pay2 (F := Ideal) wq c acc wk (ix2 (0 : Fin 1) j) : EReal)
      = (acc (ix2 (0 : Fin 1) j) : EReal)
        + ∑ k : Fin 1024, (∑ l : Fin 2048, (wq (ix2 k l) : EReal) * (c (ix2 (0 : Fin 1) l) : EReal)) * (wk (ix2 k j) : EReal) := by
  unfold k0_pay2
  dsimp only
  rw [shapeCast_self, shapeCast_self]
  show (acc (ix2 (0 : Fin 1) j) : EReal) + (shapeCast S1x2048 (multiReduction (F := Ideal) .add [0] S2048 _ 0x00000000#32 reduces_S1024x2048_S2048 (.inl rfl) rfl)
    shapeCasts_S2048_S1x2048 (ix2 (0 : Fin 1) j)) = _
  rw [asRow_at, sum_col]
  refine congrArg (fun e : EReal => (acc (ix2 (0 : Fin 1) j) : EReal) + e) (Finset.sum_congr rfl fun k _ => ?_)
  show (broadcastTo S1024x2048 (shapeCast S1024x1 (multiReduction (F := Ideal) .add [1] S1024 _ 0x00000000#32 reduces_S1024x2048_S1024 (.inl rfl) rfl)
    shapeCasts_S1024_S1024x1) broadcasts_S1024x1_S1024x2048 (ix2 k j)) * (wk (ix2 k j) : EReal) = _
  rw [across_at, sum_row]
  refine congrArg (fun e : EReal => e * (wk (ix2 k j) : EReal)) (Finset.sum_congr rfl fun l _ => ?_)
  show (wq (ix2 k l) : EReal) * (broadcastTo S1024x2048 c broadcasts_S1x2048_S1024x2048 (ix2 k l)) = _
  rw [down_at]

/-- A block's entry is the matrix's. -/
theorem rows_at (n : Fin 2) (w : FVec Ideal S2048x2048 .f32) (k : Fin 1024) (l : Fin 2048) :
    rows n w (ix2 k l) = w (ix2 (⟨1024 * n.val + k.val, by omega⟩ : Fin 2048) l) := rfl

/-- The row the first point starts from is zero. -/
theorem pay1_at (j : Fin 2048) : ((k0_pay1 : FVec Ideal S1x2048 .f32) (ix2 (0 : Fin 1) j) : EReal) = 0 :=
  Ideal.ofBits_zero_f32

/-- A sum over 2048 is the sum over its first half and its second. -/
theorem sum_halves (f : Fin 2048 → EReal) :
    (0 + ∑ k : Fin 1024, f ⟨1024 * 0 + k.val, by omega⟩) + ∑ k : Fin 1024, f ⟨1024 * 1 + k.val, by omega⟩ = ∑ k, f k := by
  rw [zero_add]
  have h := Fin.sum_univ_add (a := 1024) (b := 1024) (f : Fin (1024 + 1024) → EReal)
  refine Eq.trans ?_ h.symm
  refine congrArg₂ (fun a b : EReal => a + b) (Finset.sum_congr rfl fun k _ => congrArg f (Fin.ext ?_))
    (Finset.sum_congr rfl fun k _ => congrArg f (Fin.ext ?_))
  · show 1024 * 0 + k.val = k.val
    omega
  · show 1024 * 1 + k.val = 1024 + k.val
    omega

/-- The finished row: the product of the context with the first weight, times the second weight. -/
theorem fullRow_at (x : FVec Ideal S2048 .f32) (wq wk : FVec Ideal S2048x2048 .f32) (j : Fin 2048) :
    (fullRow x wq wk (ix2 (0 : Fin 1) j) : EReal)
      = ∑ k : Fin 2048, (∑ l : Fin 2048, (wq (ix2 k l) : EReal) * (x (ix1 l) : EReal)) * (wk (ix2 k j) : EReal) := by
  unfold fullRow firstRow
  rw [pay2_at, pay2_at, pay1_at]
  have hc : ∀ l : Fin 2048, contextRow x (ix2 (0 : Fin 1) l) = x (ix1 l) := fun l => asRow_at x l
  simp only [hc, rows_at]
  exact sum_halves fun k => (∑ l : Fin 2048, (wq (ix2 k l) : EReal) * (x (ix1 l) : EReal)) * (wk (ix2 k j) : EReal)

/-- The kernel's scale, named for the number it stands for. -/
theorem scale_eq : (Named.named (F := Ideal) (φ := .f32) κ "inv_sqrt_d" 0x3CB504F3#32 : EReal) = (((Real.sqrt 2048)⁻¹ : ℝ) : EReal) :=
  IdealRules.named_const.ideal_named_scalar _ _ _ _ rfl

/-- The kernel's scores: the finished row's product with each key, scaled. -/
theorem pay4_at (t : FVec Ideal S1x2048 .f32) (keys : FVec Ideal S64x2048 .f32) (e : Fin 64) :
    (k0_pay4 (F := Ideal) t keys (ix2 (0 : Fin 1) e) : EReal)
      = (∑ j : Fin 2048, (t (ix2 (0 : Fin 1) j) : EReal) * (keys (ix2 e j) : EReal)) * (((Real.sqrt 2048)⁻¹ : ℝ) : EReal) := by
  have hd : (matmul dot_S1x2048_S64x2048_S1x64_1_1_0_0_n_n (some .fp32) t keys (constant (F := Ideal) S1x64 .f32 0x00000000#32) (ix2 (0 : Fin 1) e) : EReal)
      = ∑ j : Fin 2048, (t (ix2 (0 : Fin 1) j) : EReal) * (keys (ix2 e j) : EReal) := by
    refine Eq.trans (Ideal.matmul_apply _ _ _ _ _ _) ?_
    rw [show (constant (F := Ideal) S1x64 .f32 0x00000000#32 (ix2 (0 : Fin 1) e) : EReal) = 0 from Ideal.ofBits_zero_f32, zero_add,
      ← Equiv.sum_comp (contrEquiv1 dot_S1x2048_S64x2048_S1x64_1_1_0_0_n_n 2048 rfl rfl).symm]
    refine Finset.sum_congr rfl fun c _ => ?_
    have hc := contrEquiv1_symm_val dot_S1x2048_S64x2048_S1x64_1_1_0_0_n_n 2048 rfl rfl c
    have hl : dot_S1x2048_S64x2048_S1x64_1_1_0_0_n_n.lhsIdx (ix2 (0 : Fin 1) e)
        ((contrEquiv1 dot_S1x2048_S64x2048_S1x64_1_1_0_0_n_n 2048 rfl rfl).symm c) = ix2 (0 : Fin 1) c := by
      funext ax; apply Fin.ext
      match ax with
      | ⟨0, _⟩ => simp [DotDims.lhsIdx, dot_S1x2048_S64x2048_S1x64_1_1_0_0_n_n]
      | ⟨1, _⟩ => simp [DotDims.lhsIdx, dot_S1x2048_S64x2048_S1x64_1_1_0_0_n_n]; exact hc
    have hr : dot_S1x2048_S64x2048_S1x64_1_1_0_0_n_n.rhsIdx (ix2 (0 : Fin 1) e)
        ((contrEquiv1 dot_S1x2048_S64x2048_S1x64_1_1_0_0_n_n 2048 rfl rfl).symm c) = ix2 e c := by
      funext ax; apply Fin.ext
      match ax with
      | ⟨0, _⟩ => simp [DotDims.rhsIdx, dot_S1x2048_S64x2048_S1x64_1_1_0_0_n_n]; rfl
      | ⟨1, _⟩ => simp [DotDims.rhsIdx, dot_S1x2048_S64x2048_S1x64_1_1_0_0_n_n]; exact hc
    rw [hl, hr]
  show (matmul dot_S1x2048_S64x2048_S1x64_1_1_0_0_n_n (some .fp32) t keys (constant (F := Ideal) S1x64 .f32 0x00000000#32) (ix2 (0 : Fin 1) e) : EReal)
    * (Named.named (F := Ideal) (φ := .f32) κ "inv_sqrt_d" 0x3CB504F3#32 : EReal) = _
  rw [hd, scale_eq]

end Cert.KernelIdeal.Value

end
-- ==== Proof.ReferenceScores.lean ====
/-
  The reference's scores as sums.
-/
module

public import proofs.«01_k».proof.Proof.KernelScores

@[expose] public section

set_option maxRecDepth 16384

noncomputable section

namespace Cert.ReferenceIdeal.Value

open Cert.ReferenceIdeal Cert.ReferenceIdeal.Gen Idealize.ShloMosaic.ValueIdx
open Idealize.ShloMosaic hiding ix0 ix1 ix2 ix3 sum_idx2

/-- A square matrix times a vector, read at an entry. -/
theorem query_at (wq : FVec Ideal S2048x2048 .f32) (x : FVec Ideal S2048 .f32) (k : Fin 2048) :
    (Host.dotGeneral dot_S2048x2048_S2048_S2048_1_0_0_n_n_n none wq x (ix1 k) : EReal)
      = ∑ l : Fin 2048, (wq (ix2 k l) : EReal) * (x (ix1 l) : EReal) := by
  show FloatOps.dotGeneral _ none _ wq x (ix1 k) = _
  rw [Ideal.dotGeneral_apply, ← Equiv.sum_comp (contrEquiv1 dot_S2048x2048_S2048_S2048_1_0_0_n_n_n 2048 rfl rfl).symm]
  refine Finset.sum_congr rfl fun c _ => ?_
  have hc := contrEquiv1_symm_val dot_S2048x2048_S2048_S2048_1_0_0_n_n_n 2048 rfl rfl c
  have hl : dot_S2048x2048_S2048_S2048_1_0_0_n_n_n.lhsIdx (ix1 k)
      ((contrEquiv1 dot_S2048x2048_S2048_S2048_1_0_0_n_n_n 2048 rfl rfl).symm c) = ix2 k c := by
    funext ax; apply Fin.ext
    match ax with
    | ⟨0, _⟩ => simp [DotDims.lhsIdx, dot_S2048x2048_S2048_S2048_1_0_0_n_n_n]; rfl
    | ⟨1, _⟩ => simp [DotDims.lhsIdx, dot_S2048x2048_S2048_S2048_1_0_0_n_n_n]; exact hc
  have hr : dot_S2048x2048_S2048_S2048_1_0_0_n_n_n.rhsIdx (ix1 k)
      ((contrEquiv1 dot_S2048x2048_S2048_S2048_1_0_0_n_n_n 2048 rfl rfl).symm c) = ix1 c := by
    funext ax; apply Fin.ext
    match ax with
    | ⟨0, _⟩ => simp [DotDims.rhsIdx, dot_S2048x2048_S2048_S2048_1_0_0_n_n_n]; exact hc
  rw [hl, hr]

/-- The keys times the transposed weight, read at an entry. -/
theorem project_at (keys : FVec Ideal S64x2048 .f32) (wk : FVec Ideal S2048x2048 .f32) (e : Fin 64) (k : Fin 2048) :
    (Host.dotGeneral dot_S64x2048_S2048x2048_S64x2048_1_0_0_1_n_n none keys
        (transpose S2048x2048 [1, 0] wk transposes_S2048x2048_S2048x2048_1_0) (ix2 e k) : EReal)
      = ∑ j : Fin 2048, (keys (ix2 e j) : EReal) * (wk (ix2 k j) : EReal) := by
  show FloatOps.dotGeneral _ none _ keys _ (ix2 e k) = _
  rw [Ideal.dotGeneral_apply, ← Equiv.sum_comp (contrEquiv1 dot_S64x2048_S2048x2048_S64x2048_1_0_0_1_n_n 2048 rfl rfl).symm]
  refine Finset.sum_congr rfl fun c _ => ?_
  have hc := contrEquiv1_symm_val dot_S64x2048_S2048x2048_S64x2048_1_0_0_1_n_n 2048 rfl rfl c
  have hl : dot_S64x2048_S2048x2048_S64x2048_1_0_0_1_n_n.lhsIdx (ix2 e k)
      ((contrEquiv1 dot_S64x2048_S2048x2048_S64x2048_1_0_0_1_n_n 2048 rfl rfl).symm c) = ix2 e c := by
    funext ax; apply Fin.ext
    match ax with
    | ⟨0, _⟩ => simp [DotDims.lhsIdx, dot_S64x2048_S2048x2048_S64x2048_1_0_0_1_n_n]; rfl
    | ⟨1, _⟩ => simp [DotDims.lhsIdx, dot_S64x2048_S2048x2048_S64x2048_1_0_0_1_n_n]; exact hc
  have hr : dot_S64x2048_S2048x2048_S64x2048_1_0_0_1_n_n.rhsIdx (ix2 e k)
      ((contrEquiv1 dot_S64x2048_S2048x2048_S64x2048_1_0_0_1_n_n 2048 rfl rfl).symm c) = ix2 c k := by
    funext ax; apply Fin.ext
    match ax with
    | ⟨0, _⟩ => simp [DotDims.rhsIdx, dot_S64x2048_S2048x2048_S64x2048_1_0_0_1_n_n]; exact hc
    | ⟨1, _⟩ => simp [DotDims.rhsIdx, dot_S64x2048_S2048x2048_S64x2048_1_0_0_1_n_n]; rfl
  have ht : transpose S2048x2048 [1, 0] wk transposes_S2048x2048_S2048x2048_1_0 (ix2 c k) = wk (ix2 k c) := by
    refine transpose_apply _ wk _ _ _ fun b => ?_
    match b with
    | ⟨0, _⟩ => rfl
    | ⟨1, _⟩ => rfl
  rw [hl, hr, ht]

/-- A 64 × 2048 matrix times a vector, read at an entry. -/
theorem product_at (p : FVec Ideal S64x2048 .f32) (q : FVec Ideal S2048 .f32) (e : Fin 64) :
    (Host.dotGeneral dot_S64x2048_S2048_S64_1_0_0_n_n_n none p q (at64 e) : EReal)
      = ∑ k : Fin 2048, (p (ix2 e k) : EReal) * (q (ix1 k) : EReal) := by
  show FloatOps.dotGeneral _ none _ p q (ix1 e) = _
  rw [Ideal.dotGeneral_apply, ← Equiv.sum_comp (contrEquiv1 dot_S64x2048_S2048_S64_1_0_0_n_n_n 2048 rfl rfl).symm]
  refine Finset.sum_congr rfl fun c _ => ?_
  have hc := contrEquiv1_symm_val dot_S64x2048_S2048_S64_1_0_0_n_n_n 2048 rfl rfl c
  have hl : dot_S64x2048_S2048_S64_1_0_0_n_n_n.lhsIdx (ix1 e)
      ((contrEquiv1 dot_S64x2048_S2048_S64_1_0_0_n_n_n 2048 rfl rfl).symm c) = ix2 e c := by
    funext ax; apply Fin.ext
    match ax with
    | ⟨0, _⟩ => simp [DotDims.lhsIdx, dot_S64x2048_S2048_S64_1_0_0_n_n_n]; rfl
    | ⟨1, _⟩ => simp [DotDims.lhsIdx, dot_S64x2048_S2048_S64_1_0_0_n_n_n]; exact hc
  have hr : dot_S64x2048_S2048_S64_1_0_0_n_n_n.rhsIdx (ix1 e)
      ((contrEquiv1 dot_S64x2048_S2048_S64_1_0_0_n_n_n 2048 rfl rfl).symm c) = ix1 c := by
    funext ax; apply Fin.ext
    match ax with
    | ⟨0, _⟩ => simp [DotDims.rhsIdx, dot_S64x2048_S2048_S64_1_0_0_n_n_n]; exact hc
  rw [hl, hr]

/-- One over the square root of 2048. -/
theorem scale_eq :
    Ideal.div (FloatOps.ofBits .f32 0x3F800000#32 : Ideal .f32) (Ideal.sqrt (FloatOps.ofBits .f32 0x45000000#32 : Ideal .f32))
      = (((Real.sqrt 2048)⁻¹ : ℝ) : EReal) := by
  have hpos : (0 : ℝ) < Real.sqrt 2048 := Real.sqrt_pos.mpr (by norm_num)
  rw [Consts.ofBits_one, Consts.ofBits_2048, Ideal.sqrt_coe, if_neg (by norm_num), Ideal.div, if_neg (by exact_mod_cast hpos.ne'), ← EReal.coe_inv,
    EReal.coe_one, one_mul]

/-- The reference's scores: the projected keys' product with the projected context, scaled. -/
theorem scores_at (x : FVec Ideal S2048 .f32) (keys : FVec Ideal S64x2048 .f32) (wq wk : FVec Ideal S2048x2048 .f32) (e : Fin 64) :
    (scores x keys wq wk (at64 e) : EReal)
      = (∑ k : Fin 2048, (∑ j : Fin 2048, (keys (ix2 e j) : EReal) * (wk (ix2 k j) : EReal))
          * (∑ l : Fin 2048, (wq (ix2 k l) : EReal) * (x (ix1 l) : EReal))) * (((Real.sqrt 2048)⁻¹ : ℝ) : EReal) := by
  have h : (scores x keys wq wk (at64 e) : EReal)
      = (Host.dotGeneral dot_S64x2048_S2048_S64_1_0_0_n_n_n none
          (Host.dotGeneral dot_S64x2048_S2048x2048_S64x2048_1_0_0_1_n_n none keys
            (transpose S2048x2048 [1, 0] wk transposes_S2048x2048_S2048x2048_1_0))
          (Host.dotGeneral dot_S2048x2048_S2048_S2048_1_0_0_n_n_n none wq x) (at64 e) : EReal)
        * Ideal.div (FloatOps.ofBits .f32 0x3F800000#32 : Ideal .f32) (Ideal.sqrt (FloatOps.ofBits .f32 0x45000000#32 : Ideal .f32)) := rfl
  rw [h, product_at, scale_eq]
  refine congrArg (fun s : EReal => s * (((Real.sqrt 2048)⁻¹ : ℝ) : EReal)) (Finset.sum_congr rfl fun k _ => ?_)
  rw [project_at, query_at]

end Cert.ReferenceIdeal.Value

end
-- ==== Proof.Agree.lean ====
/-
  On finite inputs the two programs' scores are the same finite numbers: a finite triple sum in either order.
-/
module

public import proofs.«01_k».proof.Proof.ReferenceScores
public import Mathlib.Algebra.BigOperators.Ring.Finset

@[expose] public section

set_option maxRecDepth 16384

noncomputable section

namespace Cert.Agree

open Idealize.ShloMosaic.ValueIdx
open Idealize.ShloMosaic hiding ix0 ix1 ix2 ix3 sum_idx2

/-! ## Sums of finite extended reals -/

/-- A finite sum of reals is the same among the extended reals. -/
theorem coe_sum {n : Nat} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- A finite sum of products of reals likewise. -/
theorem coe_sum_mul {n : Nat} (f g : Fin n → ℝ) :
    ∑ i, ((f i : ℝ) : EReal) * ((g i : ℝ) : EReal) = ((∑ i, f i * g i : ℝ) : EReal) := by
  rw [← coe_sum]
  exact Finset.sum_congr rfl fun i _ => (EReal.coe_mul _ _).symm

/-- The order of summation does not matter: the query's product with the projected key, first as the kernel groups it,
    then as the reference does. -/
theorem regroup {n p : Nat} (q : Fin n → ℝ) (w : Fin n → Fin p → ℝ) (key : Fin p → ℝ) :
    ∑ j, (∑ k, q k * w k j) * key j = ∑ k, (∑ j, key j * w k j) * q k := by
  simp only [Finset.sum_mul]
  rw [Finset.sum_comm]
  exact Finset.sum_congr rfl fun k _ => Finset.sum_congr rfl fun j _ => by ring

/-! ## The scores -/

/-- The score of one expert, over the reals. -/
def score (x : Fin 2048 → ℝ) (key : Fin 2048 → ℝ) (wq wk : Fin 2048 → Fin 2048 → ℝ) : ℝ :=
  (∑ k, (∑ j, key j * wk k j) * (∑ l, wq k l * x l)) * (Real.sqrt 2048)⁻¹

variable (x : FVec Ideal ⟨1, ![2048]⟩ .f32) (keys : FVec Ideal ⟨2, ![64, 2048]⟩ .f32) (wq wk : FVec Ideal ⟨2, ![2048, 2048]⟩ .f32)
variable (x' : Fin 2048 → ℝ) (keys' : Fin 64 → Fin 2048 → ℝ) (wq' wk' : Fin 2048 → Fin 2048 → ℝ)
variable (hx : ∀ l, (x (ix1 l) : EReal) = (x' l : ℝ)) (hkeys : ∀ e j, (keys (ix2 e j) : EReal) = (keys' e j : ℝ))
variable (hq : ∀ k l, (wq (ix2 k l) : EReal) = (wq' k l : ℝ)) (hk : ∀ k j, (wk (ix2 k j) : EReal) = (wk' k j : ℝ))

include hx hkeys hq hk

/-- The kernel's scores are the real ones. -/
theorem kernel_scores (e : Fin 64) :
    (Cert.KernelIdeal.Gen.k0_pay4 (F := Ideal) (Cert.KernelIdeal.Value.fullRow x wq wk) keys (ix2 (0 : Fin 1) e) : EReal)
      = ((score x' (keys' e) wq' wk' : ℝ) : EReal) := by
  rw [Cert.KernelIdeal.Value.pay4_at]
  have ht : ∀ j : Fin 2048, (Cert.KernelIdeal.Value.fullRow x wq wk (ix2 (0 : Fin 1) j) : EReal)
      = ((∑ k, (∑ l, wq' k l * x' l) * wk' k j : ℝ) : EReal) := by
    intro j
    rw [Cert.KernelIdeal.Value.fullRow_at, ← coe_sum_mul]
    refine Finset.sum_congr rfl fun k _ => ?_
    rw [hk, ← coe_sum_mul]
    refine congrArg (fun s : EReal => s * ((wk' k j : ℝ) : EReal)) (Finset.sum_congr rfl fun l _ => ?_)
    rw [hq, hx]
  have hs : ∑ j : Fin 2048, (Cert.KernelIdeal.Value.fullRow x wq wk (ix2 (0 : Fin 1) j) : EReal) * (keys (ix2 e j) : EReal)
      = ((∑ j, (∑ k, (∑ l, wq' k l * x' l) * wk' k j) * keys' e j : ℝ) : EReal) := by
    rw [← coe_sum_mul]
    exact Finset.sum_congr rfl fun j _ => by rw [ht, hkeys]
  rw [hs, ← EReal.coe_mul]
  refine congrArg (fun r : ℝ => (r : EReal)) ?_
  unfold score
  rw [regroup]

/-- The reference's scores are the real ones. -/
theorem reference_scores (e : Fin 64) :
    (Cert.ReferenceIdeal.Value.scores x keys wq wk (Cert.ReferenceIdeal.Value.at64 e) : EReal)
      = ((score x' (keys' e) wq' wk' : ℝ) : EReal) := by
  rw [Cert.ReferenceIdeal.Value.scores_at]
  unfold score
  rw [EReal.coe_mul, ← coe_sum_mul]
  refine congrArg (fun s : EReal => s * (((Real.sqrt 2048)⁻¹ : ℝ) : EReal)) (Finset.sum_congr rfl fun k _ => ?_)
  rw [← coe_sum_mul, ← coe_sum_mul]
  refine congrArg₂ (fun a b : EReal => a * b) (Finset.sum_congr rfl fun j _ => ?_) (Finset.sum_congr rfl fun l _ => ?_)
  · rw [hkeys, hk]
  · rw [hq, hx]

/-- On finite inputs the kernel's result is the reference's gate. -/
theorem results_agree :
    Cert.KernelIdeal.Value.result x keys wq wk = Cert.ReferenceIdeal.Value.refGate (Cert.ReferenceIdeal.Value.scores x keys wq wk) := by
  funext i
  obtain ⟨e, rfl⟩ : ∃ e, i = Cert.ReferenceIdeal.Value.at64 e := ⟨_, Cert.ReferenceIdeal.Value.at64_eq i⟩
  have hr := Cert.ReferenceIdeal.Value.refGate_softmax (Cert.ReferenceIdeal.Value.scores x keys wq wk)
    (fun e => ((score x' (keys' e) wq' wk' : ℝ) : EReal)) (reference_scores x keys wq wk x' keys' wq' wk' hx hkeys hq hk) e
  have hkv := Cert.KernelIdeal.Value.gate_softmax (Cert.KernelIdeal.Value.fullRow x wq wk) keys
    (fun e => ((score x' (keys' e) wq' wk' : ℝ) : EReal)) (kernel_scores x keys wq wk x' keys' wq' wk' hx hkeys hq hk)
    (fun _ => EReal.coe_ne_bot _) e
  refine Eq.trans (Eq.trans ?_ hkv) hr.symm
  unfold Cert.KernelIdeal.Value.result Cert.KernelIdeal.Value.resultRow
  refine shapeCast_apply _ _ _ (ix2 (0 : Fin 1) e) ?_
  refine (Shape.rowMajor_val_two (d := ![1, 64]) (ix2 (0 : Fin 1) e)).trans (Eq.trans ?_ (Shape.rowMajor_val_one (d := ![64]) (ix1 e)).symm)
  show 0 * 64 + e.val = e.val
  omega

end Cert.Agree

end
-- ==== Proof.Finite.lean ====
/-
  What the precondition says: every entry of the context, the keys and the two weights is a real number.
-/
module

public import proofs.«01_k».proof.Proof.Agree
public import proofs.«01_k».proof.Pre_finite

@[expose] public section

set_option maxRecDepth 16384

noncomputable section

namespace Cert.Finite

open Cert.Pre_finite Idealize.ShloMosaic

/-- The shape relations the precondition's operations take. -/
theorem facts : Cert.Pre_finite.Facts where
  bcast_S_S2048 := by decide
  reducesTo_S2048_S_d0 := by decide
  h_S_ := by decide
  bcast_S_S64x2048 := by decide
  reducesTo_S64x2048_S_d0_1 := by decide
  bcast_S_S2048x2048 := by decide
  reducesTo_S2048x2048_S_d0_1 := by decide

/-- A conjunction of two truth bits holds only if both do. -/
theorem both {a b : BitVec 1} (h : IntOp.andi a b = 1#1) : a = 1#1 ∧ b = 1#1 := by
  revert a b; decide

/-- A conjunction over a finite set holds only if every member does. -/
theorem each {ι : Type} (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha] at h
    obtain ⟨h1, h2⟩ := both h
    intro i hi
    rcases Finset.mem_insert.mp hi with rfl | hi
    · exact h1
    · exact ih h2 i hi

/-- An extended real below infinity in absolute value is a real number. -/
theorem real_of_abs (x : Ideal .f32)
    (h : FloatOps.cmpf .olt (FloatOps.hostAbsf x) (FloatOps.ofBits .f32 0x7F800000#32 : Ideal .f32) = 1#1) : ∃ r : ℝ, (x : EReal) = r := by
  rw [Consts.ofBits_pos_inf] at h
  have h' : BitVec.ofBool (decide (max (x : EReal) (-(x : EReal)) < ⊤)) = 1#1 := h
  have hlt : max (x : EReal) (-(x : EReal)) < ⊤ := by
    by_contra hn
    rw [decide_eq_false hn] at h'
    exact absurd h' (by decide)
  induction x using EReal.rec with
  | bot => exact absurd hlt (by simp)
  | coe r => exact ⟨r, rfl⟩
  | top => exact absurd hlt (by simp)

/-- The check of one argument: every entry below infinity in absolute value. -/
theorem entries_real {S : Shape} {axes : List (Fin S.rank)} (y : FVec Ideal S .f32) (hb : S_.BroadcastsInDim S (![] : Fin 0 → Fin S.rank))
    (hr : S.ReducesTo axes S_) (h0 : 0 < S_.numel) (j : S_.Idx)
    (h : Host.reduce IntOp.andi (cmpf .olt (Host.absf y) (broadcastInDim S ![] hb (constant (F := Ideal) S_ .f32 0x7F800000#32)))
      (constantI S_ 1 1#1) hr h0 j = 1#1) (i : S.Idx) : ∃ r : ℝ, (y i : EReal) = r := by
  rw [Host.reduce_eq_fold] at h
  refine real_of_abs (y i) (each _ _ h i ?_)
  exact Finset.mem_filter.mpr ⟨Finset.mem_univ _, funext fun a => a.elim0⟩

/-- Under the precondition every entry of the context, the keys and the two weights is a real number. -/
theorem all_real (a0 : FVec Ideal S64x512x2048 .f32) (x : FVec Ideal S2048 .f32) (keys : FVec Ideal S64x2048 .f32)
    (wq wk : FVec Ideal S2048x2048 .f32) (h : @Cert.Pre_finite.fn facts Ideal _ a0 x keys wq wk = fun _ => 1#1) :
    (∀ i, ∃ r : ℝ, (x i : EReal) = r) ∧ (∀ i, ∃ r : ℝ, (keys i : EReal) = r)
      ∧ (∀ i, ∃ r : ℝ, (wq i : EReal) = r) ∧ (∀ i, ∃ r : ℝ, (wk i : EReal) = r) := by
  have h := congrFun h ValueIdx.ix0
  obtain ⟨h, h4⟩ := both h
  obtain ⟨h, h3⟩ := both h
  obtain ⟨h1, h2⟩ := both h
  exact ⟨entries_real x _ _ _ _ h1, entries_real keys _ _ _ _ h2, entries_real wq _ _ _ _ h3, entries_real wk _ _ _ _ h4⟩

/-- Under the precondition the kernel's result is the reference's gate. -/
theorem results_agree (a0 : FVec Ideal S64x512x2048 .f32) (x : FVec Ideal S2048 .f32) (keys : FVec Ideal S64x2048 .f32)
    (wq wk : FVec Ideal S2048x2048 .f32) (h : @Cert.Pre_finite.fn facts Ideal _ a0 x keys wq wk = fun _ => 1#1) :
    Cert.KernelIdeal.Value.result x keys wq wk = Cert.ReferenceIdeal.Value.refGate (Cert.ReferenceIdeal.Value.scores x keys wq wk) := by
  obtain ⟨hx, hkeys, hq, hk⟩ := all_real a0 x keys wq wk h
  choose x' hx using hx
  choose keys' hkeys using hkeys
  choose wq' hq using hq
  choose wk' hk using hk
  exact Agree.results_agree x keys wq wk (fun l => x' (ValueIdx.ix1 l)) (fun e j => keys' (ValueIdx.ix2 e j))
    (fun k l => wq' (ValueIdx.ix2 k l)) (fun k j => wk' (ValueIdx.ix2 k j)) (fun l => hx _) (fun e j => hkeys _)
    (fun k l => hq _) (fun k j => hk _)

end Cert.Finite

end
-- ==== Proof.lean ====
/-
  The proof of `Cert.Claim`: the frames, the named constant, and the equality of the two results.

  The mathematics lives in the modules under `Proof/`; here it is put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and every semaphore at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel ends with its arguments unchanged and every semaphore at zero. -/
theorem kernel_frame : Cert.quiescent_Kernel (hKernel := Cert.Kernel.Gen.facts) := fun m g _ => Cert.Kernel.Gen.frame m g

/-- So does the kernel over the extended reals. -/
theorem ideal_frame : Cert.quiescent_KernelIdeal (hKernelIdeal := Cert.KernelIdeal.Gen.facts) := fun m g _ =>
  Cert.KernelIdeal.Gen.frame m g

/-- Over the extended reals, on finite arguments, the kernel and the reference end with the same 64 numbers. -/
theorem value : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  refine ⟨_, Cert.KernelIdeal.Value.run (F := Ideal) m g, ?_⟩
  refine (θ_run Cert.ReferenceIdeal.defs _ _).mono (fun r h c => ⟨((h c).1).trans ?_, (h c).2⟩)
    (Cert.ReferenceIdeal.Value.run (F := Ideal) m' g')
  obtain ⟨-, h1, h2, h3, h4⟩ := hargs c
  rw [Cert.ReferenceIdeal.Value.res_eq, h1, h2, h3, h4]
  exact (Cert.Finite.results_agree _ _ _ _ _ (hpre c)).symm

/-- All the claims together: three frames, the named constant, and the value of the one result. -/
theorem claim : Cert.Claim := ⟨Cert.Kernel.Gen.facts, Cert.KernelIdeal.Gen.facts, Cert.ReferenceIdeal.Gen.facts, Cert.Finite.facts,
  kernel_frame, ideal_frame, fun m g _ => ideal_frame m g trivial, reference_frame, fun m g _ => reference_frame m g trivial,
  IdealRules.named_const.statement Cert.KernelIdeal.κ "inv_sqrt_d" .f32 0x3CB504F3#32 (((Real.sqrt 2048)⁻¹ : ℝ) : EReal) rfl,
  value⟩

end Cert.Proof

end
